-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_values_14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_values_14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_values_17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S2000x4 : Shape := ⟨2, ![2000, 4]⟩
abbrev S48x4 : Shape := ⟨2, ![48, 4]⟩
abbrev S2048x4 : Shape := ⟨2, ![2048, 4]⟩
abbrev S4x2048 : Shape := ⟨2, ![4, 2048]⟩
abbrev S1x2048 : Shape := ⟨2, ![1, 2048]⟩
abbrev S128x2048 : Shape := ⟨2, ![128, 2048]⟩
abbrev S1x128 : Shape := ⟨2, ![1, 128]⟩
abbrev S128x1 : Shape := ⟨2, ![128, 1]⟩
abbrev S128x128 : Shape := ⟨2, ![128, 128]⟩
abbrev S1x2000 : Shape := ⟨2, ![1, 2000]⟩
abbrev S1000 : Shape := ⟨1, ![1000]⟩
abbrev S1000x1 : Shape := ⟨2, ![1000, 1]⟩
abbrev S1000x4 : Shape := ⟨2, ![1000, 4]⟩

abbrev nBuf : Space → Nat
  | .hbm => 96
  | .vmem => 4
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000x1, .f32⟩
  | .hbm, ⟨3, _⟩ => ⟨S20000, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S20000, .f32⟩
  | .hbm, ⟨8, _⟩ => ⟨S20000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S20000x1, .f32⟩
  | .hbm, ⟨13, _⟩ => ⟨S20000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S20000, .f32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .f32⟩
  | .hbm, ⟨22, _⟩ => ⟨S20000x1, .f32⟩
  | .hbm, ⟨23, _⟩ => ⟨S20000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S20000x1, .f32⟩
  | .hbm, ⟨33, _⟩ => ⟨S20000, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S20000, .f32⟩
  | .hbm, ⟨38, _⟩ => ⟨S20000, .f32⟩
  | .hbm, ⟨39, _⟩ => ⟨S_, .f32⟩
  | .hbm, ⟨40, _⟩ => ⟨S20000, .f32⟩
  | .hbm, ⟨41, _⟩ => ⟨S20000, .f32⟩
  | .hbm, ⟨42, _⟩ => ⟨S20000, .f32⟩
  | .hbm, ⟨43, _⟩ => ⟨S_, .f32⟩
  | .hbm, ⟨44, _⟩ => ⟨S20000, .f32⟩
  | .hbm, ⟨45, _⟩ => ⟨S20000, .i1⟩
  | .hbm, ⟨46, _⟩ => ⟨S20000, .f32⟩
  | .hbm, ⟨47, _⟩ => ⟨S_, .f32⟩
  | .hbm, ⟨48, _⟩ => ⟨S20000, .f32⟩
  | .hbm, ⟨49, _⟩ => ⟨S20000, .i1⟩
  | .hbm, ⟨50, _⟩ => ⟨S20000, .i1⟩
  | .hbm, ⟨51, _⟩ => ⟨S_, .f32⟩
  | .hbm, ⟨52, _⟩ => ⟨S_, .f32⟩
  | .hbm, ⟨53, _⟩ => ⟨S20000, .f32⟩
  | .hbm, ⟨54, _⟩ => ⟨S20000, .f32⟩
  | .hbm, ⟨55, _⟩ => ⟨S2000, .f32⟩
  | .hbm, ⟨56, _⟩ => ⟨S2000, .i32⟩
  | .hbm, ⟨57, _⟩ => ⟨S20000x1, .f32⟩
  | .hbm, ⟨58, _⟩ => ⟨S20000x1, .f32⟩
  | .hbm, ⟨59, _⟩ => ⟨S20000x1, .f32⟩
  | .hbm, ⟨60, _⟩ => ⟨S20000x1, .f32⟩
  | .hbm, ⟨61, _⟩ => ⟨S20000x4, .f32⟩
  | .hbm, ⟨62, _⟩ => ⟨S_, .i32⟩
  | .hbm, ⟨63, _⟩ => ⟨S2000, .i32⟩
  | .hbm, ⟨64, _⟩ => ⟨S2000, .i1⟩
  | .hbm, ⟨65, _⟩ => ⟨S_, .i32⟩
  | .hbm, ⟨66, _⟩ => ⟨S2000, .i32⟩
  | .hbm, ⟨67, _⟩ => ⟨S2000, .i32⟩
  | .hbm, ⟨68, _⟩ => ⟨S2000, .i32⟩
  | .hbm, ⟨69, _⟩ => ⟨S2000x1, .i32⟩
  | .hbm, ⟨70, _⟩ => ⟨S2000x4, .f32⟩
  | .hbm, ⟨71, _⟩ => ⟨S_, .f32⟩
  | .hbm, ⟨72, _⟩ => ⟨S48x4, .f32⟩
  | .hbm, ⟨73, _⟩ => ⟨S2048x4, .f32⟩
  | .hbm, ⟨74, _⟩ => ⟨S4x2048, .f32⟩
  | .hbm, ⟨75, _⟩ => ⟨S1x2048, .f32⟩
  | .hbm, ⟨76, _⟩ => ⟨S1x2000, .f32⟩
  | .hbm, ⟨77, _⟩ => ⟨S2000, .f32⟩
  | .hbm, ⟨78, _⟩ => ⟨S_, .f32⟩
  | .hbm, ⟨79, _⟩ => ⟨S2000, .f32⟩
  | .hbm, ⟨80, _⟩ => ⟨S2000, .i1⟩
  | .hbm, ⟨81, _⟩ => ⟨S_, .f32⟩
  | .hbm, ⟨82, _⟩ => ⟨S_, .f32⟩
  | .hbm, ⟨83, _⟩ => ⟨S2000, .f32⟩
  | .hbm, ⟨84, _⟩ => ⟨S2000, .f32⟩
  | .hbm, ⟨85, _⟩ => ⟨S1000, .f32⟩
  | .hbm, ⟨86, _⟩ => ⟨S1000, .i32⟩
  | .hbm, ⟨87, _⟩ => ⟨S_, .i32⟩
  | .hbm, ⟨88, _⟩ => ⟨S1000, .i32⟩
  | .hbm, ⟨89, _⟩ => ⟨S1000, .i1⟩
  | .hbm, ⟨90, _⟩ => ⟨S_, .i32⟩
  | .hbm, ⟨91, _⟩ => ⟨S1000, .i32⟩
  | .hbm, ⟨92, _⟩ => ⟨S1000, .i32⟩
  | .hbm, ⟨93, _⟩ => ⟨S1000, .i32⟩
  | .hbm, ⟨94, _⟩ => ⟨S1000x1, .i32⟩
  | .hbm, ⟨95, _⟩ => ⟨S1000x4, .f32⟩
  | .local _ .vmem, ⟨0, _⟩ => ⟨S2048x4, .f32⟩
  | .local _ .vmem, ⟨1, _⟩ => ⟨S4x2048, .f32⟩
  | .local _ .vmem, ⟨2, _⟩ => ⟨S1x2048, .f32⟩
  | .local _ .vmem, ⟨3, _⟩ => ⟨S128x2048, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v11 : Ref sig .tc := ⟨.hbm, 41, rfl⟩
abbrev main_v12 : Ref sig .tc := ⟨.hbm, 42, rfl⟩
abbrev main_cst_7 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_8 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_9 : Ref sig .tc := ⟨.hbm, 51, rfl⟩
abbrev main_call4_v0 : Ref sig .tc := ⟨.hbm, 52, rfl⟩
abbrev main_call4_v1 : Ref sig .tc := ⟨.hbm, 53, rfl⟩
abbrev main_v19 : Ref sig .tc := ⟨.hbm, 54, rfl⟩
abbrev main_values : Ref sig .tc := ⟨.hbm, 55, rfl⟩
abbrev main_indices : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_c : Ref sig .tc := ⟨.hbm, 62, rfl⟩
abbrev main_v25 : Ref sig .tc := ⟨.hbm, 63, rfl⟩
abbrev main_v26 : Ref sig .tc := ⟨.hbm, 64, rfl⟩
abbrev main_c_10 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_11 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_12 : Ref sig .tc := ⟨.hbm, 78, rfl⟩
abbrev main_v38 : Ref sig .tc := ⟨.hbm, 79, rfl⟩
abbrev main_v39 : Ref sig .tc := ⟨.hbm, 80, rfl⟩
abbrev main_cst_13 : Ref sig .tc := ⟨.hbm, 81, rfl⟩
abbrev main_call5_v0 : Ref sig .tc := ⟨.hbm, 82, rfl⟩
abbrev main_call5_v1 : Ref sig .tc := ⟨.hbm, 83, rfl⟩
abbrev main_v40 : Ref sig .tc := ⟨.hbm, 84, rfl⟩
abbrev main_values_14 : Ref sig .tc := ⟨.hbm, 85, rfl⟩
abbrev main_indices_15 : Ref sig .tc := ⟨.hbm, 86, rfl⟩
abbrev main_c_16 : Ref sig .tc := ⟨.hbm, 87, rfl⟩
abbrev main_v41 : Ref sig .tc := ⟨.hbm, 88, rfl⟩
abbrev main_v42 : Ref sig .tc := ⟨.hbm, 89, rfl⟩
abbrev main_c_17 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_26 : BitVec 32 := 0#32
  let c128_i32 : BitVec 32 := 128#32
  let v70 : BitVec 32 := Scalar.addi c0_i32_26 c128_i32
  let c1_i32 : BitVec 32 := 1#32
  ⟨c0_i32_26, v70, c1_i32⟩
@[reducible] def k0_t2_loop : Scf.Loop 32 :=
  let c0_i32_59 : BitVec 32 := 0#32
  let c128_i32_60 : BitVec 32 := 128#32
  let v137 : BitVec 32 := Scalar.addi c0_i32_59 c128_i32_60
  let c1_i32_61 : BitVec 32 := 1#32
  ⟨c0_i32_59, v137, c1_i32_61⟩
@[reducible] def k0_t3_loop : Scf.Loop 32 :=
  let c0_i32_93 : BitVec 32 := 0#32
  let c128_i32_94 : BitVec 32 := 128#32
  let v204 : BitVec 32 := Scalar.addi c0_i32_93 c128_i32_94
  let c1_i32_95 : BitVec 32 := 1#32
  ⟨c0_i32_93, v204, c1_i32_95⟩
@[reducible] def k0_t4_loop : Scf.Loop 32 :=
  let c0_i32_127 : BitVec 32 := 0#32
  let c128_i32_128 : BitVec 32 := 128#32
  let v271 : BitVec 32 := Scalar.addi c0_i32_127 c128_i32_128
  let c1_i32_129 : BitVec 32 := 1#32
  ⟨c0_i32_127, v271, c1_i32_129⟩
@[reducible] def k0_t5_loop : Scf.Loop 32 :=
  let c0_i32_161 : BitVec 32 := 0#32
  let c128_i32_162 : BitVec 32 := 128#32
  let v338 : BitVec 32 := Scalar.addi c0_i32_161 c128_i32_162
  let c1_i32_163 : BitVec 32 := 1#32
  ⟨c0_i32_161, v338, c1_i32_163⟩
@[reducible] def k0_t6_loop : Scf.Loop 32 :=
  let c0_i32_195 : BitVec 32 := 0#32
  let c128_i32_196 : BitVec 32 := 128#32
  let v405 : BitVec 32 := Scalar.addi c0_i32_195 c128_i32_196
  let c1_i32_197 : BitVec 32 := 1#32
  ⟨c0_i32_195, v405, c1_i32_197⟩
@[reducible] def k0_t7_loop : Scf.Loop 32 :=
  let c0_i32_229 : BitVec 32 := 0#32
  let c128_i32_230 : BitVec 32 := 128#32
  let v472 : BitVec 32 := Scalar.addi c0_i32_229 c128_i32_230
  let c1_i32_231 : BitVec 32 := 1#32
  ⟨c0_i32_229, v472, c1_i32_231⟩
@[reducible] def k0_t8_loop : Scf.Loop 32 :=
  let c0_i32_263 : BitVec 32 := 0#32
  let c128_i32_264 : BitVec 32 := 128#32
  let v539 : BitVec 32 := Scalar.addi c0_i32_263 c128_i32_264
  let c1_i32_265 : BitVec 32 := 1#32
  ⟨c0_i32_263, v539, c1_i32_265⟩
@[reducible] def k0_t9_loop : Scf.Loop 32 :=
  let c0_i32_297 : BitVec 32 := 0#32
  let c128_i32_298 : BitVec 32 := 128#32
  let v606 : BitVec 32 := Scalar.addi c0_i32_297 c128_i32_298
  let c1_i32_299 : BitVec 32 := 1#32
  ⟨c0_i32_297, v606, c1_i32_299⟩
@[reducible] def k0_t10_loop : Scf.Loop 32 :=
  let c0_i32_331 : BitVec 32 := 0#32
  let c128_i32_332 : BitVec 32 := 128#32
  let v673 : BitVec 32 := Scalar.addi c0_i32_331 c128_i32_332
  let c1_i32_333 : BitVec 32 := 1#32
  ⟨c0_i32_331, v673, c1_i32_333⟩
@[reducible] def k0_t11_loop : Scf.Loop 32 :=
  let c0_i32_365 : BitVec 32 := 0#32
  let c128_i32_366 : BitVec 32 := 128#32
  let v740 : BitVec 32 := Scalar.addi c0_i32_365 c128_i32_366
  let c1_i32_367 : BitVec 32 := 1#32
  ⟨c0_i32_365, v740, c1_i32_367⟩
@[reducible] def k0_t12_loop : Scf.Loop 32 :=
  let c0_i32_399 : BitVec 32 := 0#32
  let c128_i32_400 : BitVec 32 := 128#32
  let v807 : BitVec 32 := Scalar.addi c0_i32_399 c128_i32_400
  let c1_i32_401 : BitVec 32 := 1#32
  ⟨c0_i32_399, v807, c1_i32_401⟩
@[reducible] def k0_t13_loop : Scf.Loop 32 :=
  let c0_i32_433 : BitVec 32 := 0#32
  let c128_i32_434 : BitVec 32 := 128#32
  let v874 : BitVec 32 := Scalar.addi c0_i32_433 c128_i32_434
  let c1_i32_435 : BitVec 32 := 1#32
  ⟨c0_i32_433, v874, c1_i32_435⟩
@[reducible] def k0_t14_loop : Scf.Loop 32 :=
  let c0_i32_467 : BitVec 32 := 0#32
  let c128_i32_468 : BitVec 32 := 128#32
  let v941 : BitVec 32 := Scalar.addi c0_i32_467 c128_i32_468
  let c1_i32_469 : BitVec 32 := 1#32
  ⟨c0_i32_467, v941, c1_i32_469⟩
@[reducible] def k0_t15_loop : Scf.Loop 32 :=
  let c0_i32_501 : BitVec 32 := 0#32
  let c128_i32_502 : BitVec 32 := 128#32
  let v1008 : BitVec 32 := Scalar.addi c0_i32_501 c128_i32_502
  let c1_i32_503 : BitVec 32 := 1#32
  ⟨c0_i32_501, v1008, c1_i32_503⟩
@[reducible] def k0_t16_loop : Scf.Loop 32 :=
  let c0_i32_535 : BitVec 32 := 0#32
  let c128_i32_536 : BitVec 32 := 128#32
  let v1075 : BitVec 32 := Scalar.addi c0_i32_535 c128_i32_536
  let c1_i32_537 : BitVec 32 := 1#32
  ⟨c0_i32_535, v1075, c1_i32_537⟩
abbrev stage0_0 : Fin 1 → Memref sig .tc .vmem S2048x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S2000x4 : Shape := ⟨2, ![2000, 4]⟩
abbrev S2000x2 : Shape := ⟨2, ![2000, 2]⟩
abbrev S2000x1x2 : Shape := ⟨3, ![2000, 1, 2]⟩
abbrev S1x2000x2 : Shape := ⟨3, ![1, 2000, 2]⟩
abbrev S2000x2000x2 : Shape := ⟨3, ![2000, 2000, 2]⟩
abbrev S2000x2000x1 : Shape := ⟨3, ![2000, 2000, 1]⟩
abbrev S2000x2000 : Shape := ⟨2, ![2000, 2000]⟩
abbrev S1x2000 : Shape := ⟨2, ![1, 2000]⟩
abbrev S1 : Shape := ⟨1, ![1]⟩
abbrev S1000 : Shape := ⟨1, ![1000]⟩
abbrev S1000x1 : Shape := ⟨2, ![1000, 1]⟩
abbrev S1000x4 : Shape := ⟨2, ![1000, 4]⟩

abbrev nBuf : Space → Nat
  | .hbm => 193
  | .vmem => 0
  | .smem => 0
  | _ => 0

abbrev hbmTy0_0 (i : Nat) : BufTy := match i % 128 with
  | 0 => ⟨S20000x4, .f32⟩
  | 1 => ⟨S20000, .f32⟩
  | 2 => ⟨S20000x1, .f32⟩
  | 3 => ⟨S20000, .f32⟩
  | 4 => ⟨S_, .f32⟩
  | 5 => ⟨S_, .f32⟩
  | 6 => ⟨S_, .f32⟩
  | 7 => ⟨S20000, .f32⟩
  | 8 => ⟨S20000, .f32⟩
  | 9 => ⟨S_, .f32⟩
  | 10 => ⟨S20000, .f32⟩
  | 11 => ⟨S20000, .f32⟩
  | 12 => ⟨S20000x1, .f32⟩
  | 13 => ⟨S20000, .f32⟩
  | 14 => ⟨S_, .f32⟩
  | 15 => ⟨S_, .f32⟩
  | 16 => ⟨S_, .f32⟩
  | 17 => ⟨S20000, .f32⟩
  | 18 => ⟨S20000, .f32⟩
  | 19 => ⟨S_, .f32⟩
  | 20 => ⟨S20000, .f32⟩
  | 21 => ⟨S20000, .f32⟩
  | 22 => ⟨S20000x1, .f32⟩
  | 23 => ⟨S20000, .f32⟩
  | 24 => ⟨S_, .f32⟩
  | 25 => ⟨S_, .f32⟩
  | 26 => ⟨S_, .f32⟩
  | 27 => ⟨S20000, .f32⟩
  | 28 => ⟨S20000, .f32⟩
  | 29 => ⟨S_, .f32⟩
  | 30 => ⟨S20000, .f32⟩
  | 31 => ⟨S20000, .f32⟩
  | 32 => ⟨S20000x1, .f32⟩
  | 33 => ⟨S20000, .f32⟩
  | 34 => ⟨S_, .f32⟩
  | 35 => ⟨S_, .f32⟩
  | 36 => ⟨S_, .f32⟩
  | 37 => ⟨S20000, .f32⟩
  | 38 => ⟨S20000, .f32⟩
  | 39 => ⟨S_, .f32⟩
  | 40 => ⟨S20000, .f32⟩
  | 41 => ⟨S20000, .f32⟩
  | 42 => ⟨S20000x1, .f32⟩
  | 43 => ⟨S20000x1, .f32⟩
  | 44 => ⟨S20000x1, .f32⟩
  | 45 => ⟨S20000x1, .f32⟩
  | 46 => ⟨S20000x4, .f32⟩
  | 47 => ⟨S20000, .f32⟩
  | 48 => ⟨S20000, .f32⟩
  | 49 => ⟨S_, .f32⟩
  | 50 => ⟨S20000, .f32⟩
  | 51 => ⟨S20000, .i1⟩
  | 52 => ⟨S_, .f32⟩
  | 53 => ⟨S20000, .f32⟩
  | 54 => ⟨S20000, .i1⟩
  | 55 => ⟨S20000, .i1⟩
  | 56 => ⟨S_, .f32⟩
  | 57 => ⟨S_, .f32⟩
  | 58 => ⟨S20000, .f32⟩
  | 59 => ⟨S20000, .f32⟩
  | 60 => ⟨S2000, .f32⟩
  | 61 => ⟨S2000, .i32⟩
  | 62 => ⟨S_, .i32⟩
  | 63 => ⟨S2000, .i32⟩
  | 64 => ⟨S2000, .i1⟩
  | 65 => ⟨S_, .i32⟩
  | 66 => ⟨S2000, .i32⟩
  | 67 => ⟨S2000, .i32⟩
  | 68 => ⟨S2000, .i32⟩
  | 69 => ⟨S2000x1, .i32⟩
  | 70 => ⟨S2000x4, .f32⟩
  | 71 => ⟨S2000x1, .f32⟩
  | 72 => ⟨S2000, .f32⟩
  | 73 => ⟨S2000x1, .f32⟩
  | 74 => ⟨S2000, .f32⟩
  | 75 => ⟨S2000, .f32⟩
  | 76 => ⟨S2000x1, .f32⟩
  | 77 => ⟨S2000, .f32⟩
  | 78 => ⟨S2000x1, .f32⟩
  | 79 => ⟨S2000, .f32⟩
  | 80 => ⟨S2000, .f32⟩
  | 81 => ⟨S2000, .f32⟩
  | 82 => ⟨S2000x1, .f32⟩
  | 83 => ⟨S2000, .f32⟩
  | 84 => ⟨S2000x1, .f32⟩
  | 85 => ⟨S2000, .f32⟩
  | 86 => ⟨S2000, .f32⟩
  | 87 => ⟨S2000x1, .f32⟩
  | 88 => ⟨S2000, .f32⟩
  | 89 => ⟨S2000x1, .f32⟩
  | 90 => ⟨S2000, .f32⟩
  | 91 => ⟨S2000, .f32⟩
  | 92 => ⟨S2000, .f32⟩
  | 93 => ⟨S2000x2, .f32⟩
  | 94 => ⟨S2000x1x2, .f32⟩
  | 95 => ⟨S2000x2, .f32⟩
  | 96 => ⟨S1x2000x2, .f32⟩
  | 97 => ⟨S2000x2000x2, .f32⟩
  | 98 => ⟨S2000x2000x2, .f32⟩
  | 99 => ⟨S2000x2000x2, .f32⟩
  | 100 => ⟨S2000x2, .f32⟩
  | 101 => ⟨S2000x1x2, .f32⟩
  | 102 => ⟨S2000x2, .f32⟩
  | 103 => ⟨S1x2000x2, .f32⟩
  | 104 => ⟨S2000x2000x2, .f32⟩
  | 105 => ⟨S2000x2000x2, .f32⟩
  | 106 => ⟨S2000x2000x2, .f32⟩
  | 107 => ⟨S2000x2000x2, .f32⟩
  | 108 => ⟨S_, .f32⟩
  | 109 => ⟨S_, .f32⟩
  | 110 => ⟨S2000x2000x2, .f32⟩
  | 111 => ⟨S2000x2000x2, .f32⟩
  | 112 => ⟨S2000x2000x1, .f32⟩
  | 113 => ⟨S2000x2000, .f32⟩
  | 114 => ⟨S2000x2000x1, .f32⟩
  | 115 => ⟨S2000x2000, .f32⟩
  | 116 => ⟨S2000x2000, .f32⟩
  | 117 => ⟨S2000x1, .f32⟩
  | 118 => ⟨S1x2000, .f32⟩
  | 119 => ⟨S2000x2000, .f32⟩
  | 120 => ⟨S2000x2000, .f32⟩
  | 121 => ⟨S2000x2000, .f32⟩
  | 122 => ⟨S2000x2000, .f32⟩
  | 123 => ⟨S_, .f32⟩
  | 124 => ⟨S2000x2000, .f32⟩
  | 125 => ⟨S2000x2000, .f32⟩
  | 126 => ⟨S2000x2000, .f32⟩
  | 127 => ⟨S2000, .i32⟩
  | _ => ⟨S20000x4, .f32⟩

abbrev hbmTy0_1 (i : Nat) : BufTy := match i % 128 with
  | 0 => ⟨S_, .i1⟩
  | 1 => ⟨S2000, .i1⟩
  | 2 => ⟨S_, .i32⟩
  | 3 => ⟨S_, .i32⟩
  | 4 => ⟨S2000x2000, .f32⟩
  | 5 => ⟨S2000, .i32⟩
  | 6 => ⟨S_, .i32⟩
  | 7 => ⟨S_, .i32⟩
  | 8 => ⟨S2000, .i1⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S1x2000, .f32⟩
  | 28 => ⟨S2000, .f32⟩
  | 29 => ⟨S_, .f32⟩
  | 30 => ⟨S2000, .f32⟩
  | 31 => ⟨S2000, .i1⟩
  | 32 => ⟨S_, .i32⟩
  | 33 => ⟨S2000, .i32⟩
  | 34 => ⟨S2000, .i1⟩
  | 35 => ⟨S2000, .i1⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1, .i1⟩
  | 43 => ⟨S_, .i1⟩
  | 44 => ⟨S2000, .i1⟩
  | 45 => ⟨S2000, .i1⟩
  | 46 => ⟨S2000, .i1⟩
  | 47 => ⟨S2000, .i1⟩
  | 48 => ⟨S_, .i32⟩
  | 49 => ⟨S_, .i32⟩
  | 50 => ⟨S_, .f32⟩
  | 51 => ⟨S_, .f32⟩
  | 52 => ⟨S2000, .f32⟩
  | 53 => ⟨S2000, .f32⟩
  | 54 => ⟨S1000, .f32⟩
  | 55 => ⟨S1000, .i32⟩
  | 56 => ⟨S_, .i32⟩
  | 57 => ⟨S1000, .i32⟩
  | 58 => ⟨S1000, .i1⟩
  | 59 => ⟨S_, .i32⟩
  | 60 => ⟨S1000, .i32⟩
  | 61 => ⟨S1000, .i32⟩
  | 62 => ⟨S1000, .i32⟩
  | 63 => ⟨S1000x1, .i32⟩
  | 64 => ⟨S1000x4, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_7 : Ref sig .tc := ⟨.hbm, 49, rfl⟩
abbrev main_v19 : Ref sig .tc := ⟨.hbm, 50, rfl⟩
abbrev main_v20 : Ref sig .tc := ⟨.hbm, 51, rfl⟩
abbrev main_cst_8 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_9 : Ref sig .tc := ⟨.hbm, 56, rfl⟩
abbrev main_call4_v0 : Ref sig .tc := ⟨.hbm, 57, rfl⟩
abbrev main_call4_v1 : Ref sig .tc := ⟨.hbm, 58, rfl⟩
abbrev main_v24 : Ref sig .tc := ⟨.hbm, 59, rfl⟩
abbrev main_values : Ref sig .tc := ⟨.hbm, 60, rfl⟩
abbrev main_indices : Ref sig .tc := ⟨.hbm, 61, rfl⟩
abbrev main_c : Ref sig .tc := ⟨.hbm, 62, rfl⟩
abbrev main_v25 : Ref sig .tc := ⟨.hbm, 63, rfl⟩
abbrev main_v26 : Ref sig .tc := ⟨.hbm, 64, rfl⟩
abbrev main_c_10 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_11 : Ref sig .tc := ⟨.hbm, 108, rfl⟩
abbrev main_call5_v0 : Ref sig .tc := ⟨.hbm, 109, rfl⟩
abbrev main_call5_v1 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_12 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_13 : Ref sig .tc := ⟨.hbm, 128, rfl⟩
abbrev main_v85 : Ref sig .tc := ⟨.hbm, 129, rfl⟩
abbrev main_c_14 : Ref sig .tc := ⟨.hbm, 130, rfl⟩
abbrev main_c_15 : Ref sig .tc := ⟨.hbm, 131, rfl⟩
abbrev main_v86_0 : Ref sig .tc := ⟨.hbm, 132, rfl⟩
abbrev main_v86_1 : Ref sig .tc := ⟨.hbm, 133, rfl⟩
abbrev main_v86_2 : Ref sig .tc := ⟨.hbm, 134, rfl⟩
abbrev main_v86_3 : Ref sig .tc := ⟨.hbm, 135, rfl⟩
abbrev main_v86_4 : Ref sig .tc := ⟨.hbm, 136, rfl⟩
abbrev main_while0c_c_25 : Ref sig .tc := ⟨.hbm, 137, rfl⟩
abbrev main_while0c_v95 : Ref sig .tc := ⟨.hbm, 138, rfl⟩
abbrev main_while0b_c_25 : Ref sig .tc := ⟨.hbm, 139, rfl⟩
abbrev main_while0b_v95 : Ref sig .tc := ⟨.hbm, 140, rfl⟩
abbrev main_while0b_v96 : Ref sig .tc := ⟨.hbm, 141, rfl⟩
abbrev main_while0b_c_26 : Ref sig .tc := ⟨.hbm, 142, rfl⟩
abbrev main_while0b_v97 : Ref sig .tc := ⟨.hbm, 143, rfl⟩
abbrev main_while0b_c_27 : Ref sig .tc := ⟨.hbm, 144, rfl⟩
abbrev main_while0b_v98 : Ref sig .tc := ⟨.hbm, 145, rfl⟩
abbrev main_while0b_v99 : Ref sig .tc := ⟨.hbm, 146, rfl⟩
abbrev main_while0b_c_28 : Ref sig .tc := ⟨.hbm, 147, rfl⟩
abbrev main_while0b_c_29 : Ref sig .tc := ⟨.hbm, 148, rfl⟩
abbrev main_while0b_v100 : Ref sig .tc := ⟨.hbm, 149, rfl⟩
abbrev main_while0b_c_30 : Ref sig .tc := ⟨.hbm, 150, rfl⟩
abbrev main_while0b_c_31 : Ref sig .tc := ⟨.hbm, 151, rfl⟩
abbrev main_while0b_v101 : Ref sig .tc := ⟨.hbm, 152, rfl⟩
abbrev main_while0b_c_32 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_cst_33 : Ref sig .tc := ⟨.hbm, 157, rfl⟩
abbrev main_while0b_v105 : Ref sig .tc := ⟨.hbm, 158, rfl⟩
abbrev main_while0b_v106 : Ref sig .tc := ⟨.hbm, 159, rfl⟩
abbrev main_while0b_v107 : Ref sig .tc := ⟨.hbm, 160, rfl⟩
abbrev main_while0b_v108 : Ref sig .tc := ⟨.hbm, 161, rfl⟩
abbrev main_while0b_v109 : Ref sig .tc := ⟨.hbm, 162, rfl⟩
abbrev main_while0b_v110 : Ref sig .tc := ⟨.hbm, 163, rfl⟩
abbrev main_while0b_c_34 : Ref sig .tc := ⟨.hbm, 164, rfl⟩
abbrev main_while0b_v111 : Ref sig .tc := ⟨.hbm, 165, rfl⟩
abbrev main_while0b_v112 : Ref sig .tc := ⟨.hbm, 166, rfl⟩
abbrev main_while0b_c_35 : Ref sig .tc := ⟨.hbm, 167, rfl⟩
abbrev main_while0b_v113 : Ref sig .tc := ⟨.hbm, 168, rfl⟩
abbrev main_while0b_v114 : Ref sig .tc := ⟨.hbm, 169, rfl⟩
abbrev main_while0b_v115 : Ref sig .tc := ⟨.hbm, 170, rfl⟩
abbrev main_while0b_v116 : Ref sig .tc := ⟨.hbm, 171, rfl⟩
abbrev main_while0b_v117 : Ref sig .tc := ⟨.hbm, 172, rfl⟩
abbrev main_while0b_v118 : Ref sig .tc := ⟨.hbm, 173, rfl⟩
abbrev main_while0b_v119 : Ref sig .tc := ⟨.hbm, 174, rfl⟩
abbrev main_while0b_v120 : Ref sig .tc := ⟨.hbm, 175, rfl⟩
abbrev main_while0b_c_36 : Ref sig .tc := ⟨.hbm, 176, rfl⟩
abbrev main_while0b_v121 : Ref sig .tc := ⟨.hbm, 177, rfl⟩
abbrev main_cst_16 : Ref sig .tc := ⟨.hbm, 178, rfl⟩
abbrev main_call6_v0 : Ref sig .tc := ⟨.hbm, 179, rfl⟩
abbrev main_call6_v1 : Ref sig .tc := ⟨.hbm, 180, rfl⟩
abbrev main_v87 : Ref sig .tc := ⟨.hbm, 181, rfl⟩
abbrev main_values_17 : Ref sig .tc := ⟨.hbm, 182, rfl⟩
abbrev main_indices_18 : Ref sig .tc := ⟨.hbm, 183, rfl⟩
abbrev main_c_19 : Ref sig .tc := ⟨.hbm, 184, rfl⟩
abbrev main_v88 : Ref sig .tc := ⟨.hbm, 185, rfl⟩
abbrev main_v89 : Ref sig .tc := ⟨.hbm, 186, rfl⟩
abbrev main_c_20 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩

abbrev nD : Nat := 1
abbrev τ : Topo := Topo.v7x

variable {F : FTy → Type} [FloatOps F]

abbrev main_while0_count : Scf.Loop 32 := ⟨0#32, 2000#32, 1#32⟩
-- ==== Proof.RefFrame.lean ====
/- The reference program's run: what its loop leaves alone, and its frame (arguments unchanged, no counter raised). -/
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 8192

noncomputable section

namespace Cert.ReferenceIdeal.Value

open Cert.ReferenceIdeal Cert.ReferenceIdeal.Gen
open Idealize.ShloMosaic Idealize.ShloMosaic.TcCoe
open Idealize.SL.Sem
open Idealize.ShloMosaic.StableHlo

variable {F : FTy → Type} [FloatOps F]
variable (m : (ℓ : Loc nD τ sig) → Buf (Elt F) ℓ)

/-- A buffer that neither the loop's condition nor its body writes keeps its entry contents through every trip. -/
theorem atK_keep (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    rw [show atK m (k + 1) c = after while0Ops0 (after condOps (atK m k c)) from rfl,
      after_of_writes_sub while0Ops0 _ while0Ops0_writes hb, after_of_writes_sub condOps _ condOps_writes hc]
    exact atK_keep c r hc hb k

/-- The references that the operations after the loop write, stretch by stretch. -/
abbrev post0_W : List (Ref sig .tc) := [main_cst_16]
abbrev post1_W : List (Ref sig .tc) := [main_call6_v0, main_call6_v1, main_v87]
abbrev post2_W : List (Ref sig .tc) :=
  [main_values_17, main_indices_18, main_c_19, main_v88, main_v89, main_c_20, main_v90, main_v91, main_v92, main_v93, main_v94]
theorem post0_writes : (hostOps0_13 : List (HloOp τ sig (Elt F))).Forall fun op => op.writes ⊆ (post0_W.map (Proc.devRef (τ := τ) .tc)).toFinset :=
  StableHlo.forall_writes_sub_of_map rfl
theorem post1_writes : (hostOps0_14 : List (HloOp τ sig (Elt F))).Forall fun op => op.writes ⊆ (post1_W.map (Proc.devRef (τ := τ) .tc)).toFinset :=
  StableHlo.forall_writes_sub_of_map rfl
theorem post2_writes : (hostOps0_15 : List (HloOp τ sig (Elt F))).Forall fun op => op.writes ⊆ (post2_W.map (Proc.devRef (τ := τ) .tc)).toFinset :=
  StableHlo.forall_writes_sub_of_map rfl

/-- A buffer that no operation of the program writes. -/
def Untouched (r : Ref sig .tc) : Prop :=
  (r ∉ hostOps0_W ∧ r ∉ hostOps0_1_W ∧ r ∉ hostOps0_2_W ∧ r ∉ hostOps0_3_W ∧ r ∉ hostOps0_4_W ∧ r ∉ hostOps0_5_W ∧ r ∉ hostOps0_6_W
    ∧ r ∉ hostOps0_7_W ∧ r ∉ hostOps0_8_W ∧ r ∉ hostOps0_9_W ∧ r ∉ hostOps0_10_W ∧ r ∉ hostOps0_11_W ∧ r ∉ hostOps0_12_W)
  ∧ (r ∉ condOps_W ∧ r ∉ while0Ops0_W) ∧ r ∉ post0_W ∧ r ∉ post1_W ∧ r ∉ post2_W

instance (r : Ref sig .tc) : Decidable (Untouched r) := by unfold Untouched; infer_instance

/-- Such a buffer ends as it began. -/
theorem final_untouched (c : Dev nD) (r : Ref sig .tc) (h : Untouched r) :
    finalContents condOps preI bodyI postI 2000 m c (Proc.devRef .tc r) = m ((c.tc : Thread nD τ).loc r) := by
  obtain ⟨⟨p0, p1, p2, p3, p4, p5, p6, p7, p8, p9, p10, p11, p12⟩, ⟨hc, hb⟩, q0, q1, q2⟩ := h
  rw [show finalContents condOps preI bodyI postI 2000 m c
      = after hostOps0_15 (after hostOps0_14 (after hostOps0_13 (after condOps (atK m 2000 c)))) from rfl,
    after_of_writes_sub hostOps0_15 _ post2_writes q2, after_of_writes_sub hostOps0_14 _ post1_writes q1,
    after_of_writes_sub hostOps0_13 _ post0_writes q0, after_of_writes_sub condOps _ condOps_writes hc, atK_keep m c r hc hb]
  simp only [entryContents, afterL_cons, afterL_nil]
  rw [after_of_writes_sub hostOps0_12 _ hostOps0_12_writes p12, after_of_writes_sub hostOps0_11 _ hostOps0_11_writes p11,
    after_of_writes_sub hostOps0_10 _ hostOps0_10_writes p10, after_of_writes_sub hostOps0_9 _ hostOps0_9_writes p9,
    after_of_writes_sub hostOps0_8 _ hostOps0_8_writes p8, after_of_writes_sub hostOps0_7 _ hostOps0_7_writes p7,
    after_of_writes_sub hostOps0_6 _ hostOps0_6_writes p6, after_of_writes_sub hostOps0_5 _ hostOps0_5_writes p5,
    after_of_writes_sub hostOps0_4 _ hostOps0_4_writes p4, after_of_writes_sub hostOps0_3 _ hostOps0_3_writes p3,
    after_of_writes_sub hostOps0_2 _ hostOps0_2_writes p2, after_of_writes_sub hostOps0_1 _ hostOps0_1_writes p1,
    after_of_writes_sub hostOps0 _ hostOps0_writes p0]

/-- The reference's frame: both arguments are unchanged, and the program has no semaphore to leave raised. -/
theorem frame (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun r h =>
    ⟨fun c => ⟨(h c main_arg0 rfl).trans (final_untouched m c main_arg0 (by decide +kernel)),
      (h c main_arg1 rfl).trans (final_untouched m c main_arg1 (by decide +kernel))⟩, sem_eq_zero_of_no_sems rfl r.2⟩) (run_fold m ρ)

end Cert.ReferenceIdeal.Value

end
-- ==== Proof.Block.lean ====
/- One block of 128 candidates of the kernel, as functions of the arrays that the block reads: which pairs suppress each
   other, the walk inside the block, and the keep vector after the block. Every block of the kernel is one instance. -/
module

public import proofs.«01_k».proof.Proof.Gen.KernelIdeal.Frame

@[expose] public section

set_option maxRecDepth 16384

noncomputable section

namespace Cert.KernelIdeal.Block

open Cert.KernelIdeal Cert.KernelIdeal.Gen
open Idealize.ShloMosaic Idealize.ShloMosaic.TcCoe

variable {F : FTy → Type} [FloatOps F]

/-- The 128 × 2048 mask of a block: one where the block's box overlaps the column's box by more than the threshold and
    the column comes later; `w` is the block's first row number. -/
def sBlk (w : BitVec 32) (xc yc x2c y2c : Vec F S1x2048 .f32) (xr yr x2r y2r : Vec F S128x1 .f32) : FVec F S128x2048 .f32 :=
  let C := fun v : Vec F S1x2048 .f32 => (shapeCast S1x2048 v shapeCasts_S1x2048_S1x2048 : FVec F S1x2048 .f32)
  let R := fun v : Vec F S128x1 .f32 => (shapeCast S128x1 v shapeCasts_S128x1_S128x1 : FVec F S128x1 .f32)
  let bc := fun v : FVec F S1x2048 .f32 => (broadcastTo S128x2048 v broadcasts_S1x2048_S128x2048 : FVec F S128x2048 .f32)
  let br := fun v : FVec F S128x1 .f32 => (broadcastTo S128x2048 v broadcasts_S128x1_S128x2048 : FVec F S128x2048 .f32)
  let areaC : FVec F S1x2048 .f32 := mulf (subf (C x2c) (C xc)) (subf (C y2c) (C yc))
  let areaR : FVec F S128x1 .f32 := mulf (subf (R x2r) (R xr)) (subf (R y2r) (R yr))
  let zero : FVec F S128x2048 .f32 := broadcast S128x2048 (Scalar.ofBits .f32 0x00000000#32 : F .f32)
  let wd : FVec F S128x2048 .f32 := maximumf (subf (minimumf (br (R x2r)) (bc (C x2c))) (maximumf (br (R xr)) (bc (C xc)))) zero
  let ht : FVec F S128x2048 .f32 := maximumf (subf (minimumf (br (R y2r)) (bc (C y2c))) (maximumf (br (R yr)) (bc (C yc)))) zero
  let inter : FVec F S128x2048 .f32 := mulf wd ht
  let den : FVec F S128x2048 .f32 :=
    addf (subf (addf (br areaR) (bc areaC)) inter) (broadcast S128x2048 (Scalar.ofBits .f32 0x3089705F#32 : F .f32))
  let over : IVec S128x2048 1 := cmpf .ogt (divf inter den) (broadcast S128x2048 (Scalar.ofBits .f32 0x3F333333#32 : F .f32))
  let rows : IVec S128x1 32 := addi (broadcast S128x1 w) (iota .tc S128x1 32 [0] iota_S128x1_d0_w32)
  let later : IVec S128x2048 1 :=
    cmpi .sgt (broadcastTo S128x2048 (iota .tc S1x2048 32 [1] iota_S1x2048_d1_w32) broadcasts_S1x2048_S128x2048)
      (broadcastTo S128x2048 rows broadcasts_S128x1_S128x2048)
  shapeCast S128x2048
    (select (andi over later) (broadcast S128x2048 (Scalar.ofBits .f32 0x3F800000#32 : F .f32)) zero : FVec F S128x2048 .f32)
    shapeCasts_S128x2048_S128x2048

/-- One step of the walk inside a block: candidate `i` of the block, if kept, removes the candidates that it suppresses. -/
def stepBlk (s : Vec F S128x128 .f32) (i : Fin k0_t1_loop.trips) (keep : FVec F S1x128 .f32) : FVec F S1x128 .f32 :=
  k0_pay18 (iota .tc S1x128 32 [1] iota_S1x128_d1_w32) s i keep

/-- The walk inside a block, from the block's part of the keep vector. -/
def foldBlk (s : Vec F S128x128 .f32) (keep : Vec F S1x128 .f32) : FVec F S1x128 .f32 :=
  Scf.fold (stepBlk s) (shapeCast S1x128 keep shapeCasts_S1x128_S1x128)

/-- The keep vector after a block: zero where some kept candidate of the block suppresses the column. -/
def supBlk (loc : FVec F S1x128 .f32) (s : Vec F S128x2048 .f32) (keep : Vec F S1x2048 .f32) : FVec F S1x2048 .f32 :=
  k0_pay20 (k0_pay19 loc s) (Scalar.ofBits .f32 0x3F000000#32 : F .f32) keep

end Cert.KernelIdeal.Block
-- ==== Proof.Greedy.lean ====
/- Greedy suppression on natural numbers: candidate `k` is looked at in step `k`, and if it is still kept it removes every
   later candidate that it suppresses. Nothing here is about vectors. -/
module

public import Mathlib.Tactic.Ring
public import Mathlib.Order.Basic

@[expose] public section

namespace Cert.Greedy

/-- Whether candidate `c` is still kept after `j` steps, when `T k c` says that candidate `k` suppresses candidate `c`. -/
def K (T : ℕ → ℕ → Prop) : ℕ → ℕ → Prop
  | 0, _ => True
  | j + 1, c => K T j c ∧ ¬ (T j c ∧ K T j j)

variable {T : ℕ → ℕ → Prop}

theorem K_succ (j c : ℕ) : K T (j + 1) c ↔ K T j c ∧ ¬ (T j c ∧ K T j j) := Iff.rfl

/-- A candidate's own step and the steps after it do not change it, since a candidate only suppresses later ones. -/
theorem K_settled (hT : ∀ k c, T k c → k < c) (c n : ℕ) : K T (c + n) c ↔ K T c c := by
  induction n with
  | zero => rfl
  | succ n ih =>
    rw [← Nat.add_assoc, K_succ, ih]
    exact ⟨And.left, fun h => ⟨h, fun ⟨h', _⟩ => absurd (hT _ _ h') (by omega)⟩⟩

theorem K_settled' (hT : ∀ k c, T k c → k < c) {c j : ℕ} (h : c ≤ j) : K T j c ↔ K T c c := by
  obtain ⟨n, rfl⟩ := Nat.exists_eq_add_of_le h
  exact K_settled hT c n

/-- Several steps at once: what is kept is what was kept before and is suppressed by no kept candidate of these steps. -/
theorem K_add (hT : ∀ k c, T k c → k < c) (r n c : ℕ) :
    K T (r + n) c ↔ K T r c ∧ ¬ ∃ i, i < n ∧ K T (r + n) (r + i) ∧ T (r + i) c := by
  have key : ∀ n, K T (r + n) c ↔ K T r c ∧ ¬ ∃ i, i < n ∧ K T (r + i) (r + i) ∧ T (r + i) c := by
    intro n
    induction n with
    | zero => simp
    | succ n ih =>
      rw [← Nat.add_assoc, K_succ, ih]
      constructor
      · rintro ⟨⟨h1, h2⟩, h3⟩
        refine ⟨h1, ?_⟩
        rintro ⟨i, hi, hk, ht⟩
        rcases Nat.lt_succ_iff_lt_or_eq.mp hi with hi | rfl
        · exact h2 ⟨i, hi, hk, ht⟩
        · exact h3 ⟨ht, hk⟩
      · rintro ⟨h1, h2⟩
        exact ⟨⟨h1, fun ⟨i, hi, hk, ht⟩ => h2 ⟨i, by omega, hk, ht⟩⟩, fun ⟨ht, hk⟩ => h2 ⟨n, by omega, hk, ht⟩⟩
  rw [key n]
  refine and_congr_right fun _ => not_congr (exists_congr fun i => ?_)
  constructor
  · rintro ⟨hi, hk, ht⟩
    exact ⟨hi, (K_settled' hT (by omega)).mpr hk, ht⟩
  · rintro ⟨hi, hk, ht⟩
    exact ⟨hi, (K_settled' hT (by omega)).mp hk, ht⟩

/-- Two suppression relations that agree below `N` keep the same candidates below `N`. -/
theorem K_congr {T' : ℕ → ℕ → Prop} (N : ℕ) (h : ∀ k c, k < N → c < N → (T k c ↔ T' k c)) :
    ∀ j, j ≤ N → ∀ c, c < N → (K T j c ↔ K T' j c)
  | 0, _, _, _ => Iff.rfl
  | j + 1, hj, c, hc => by
    rw [K_succ, K_succ, K_congr N h j (by omega) c hc, K_congr N h j (by omega) j (by omega), h j c (by omega) hc]

end Cert.Greedy
-- ==== Proof.BlockValue.lean ====
/- What one block of the kernel computes on extended reals, in terms of greedy suppression. -/
module

public import proofs.«01_k».proof.Proof.Block
public import proofs.«01_k».proof.Proof.Greedy
public import Idealize.ShloMosaic.Lib.Pointwise
public import Idealize.ShloMosaic.Lib.Tactic.WordOmega

@[expose] public section

set_option maxRecDepth 16384

noncomputable section

namespace Cert.KernelIdeal.Block

open Cert.KernelIdeal Cert.KernelIdeal.Gen
open Idealize.ShloMosaic Idealize.ShloMosaic.TcCoe Idealize.ShloMosaic.WordCmp

/-- The bit pattern of one half is one half. -/
theorem half_eq : Ideal.ofBits .f32 0x3F000000#32 = ((1 / 2 : ℝ) : EReal) := by
  simp [Ideal.ofBits, Ideal.ieee, -EReal.coe_mul]; norm_num

/-- Whether the box `(xr, yr, x2r, y2r)` overlaps the box `(xc, yc, x2c, y2c)` by more than the threshold, as the programs compute it. -/
def Overlaps (xr yr x2r y2r xc yc x2c y2c : EReal) : Prop :=
  Ideal.ofBits .f32 0x3F333333#32 <
    Ideal.div (max (min x2r x2c - max xr xc) 0 * max (min y2r y2c - max yr yc) 0)
      ((x2r - xr) * (y2r - yr) + (x2c - xc) * (y2c - yc) - max (min x2r x2c - max xr xc) 0 * max (min y2r y2c - max yr yc) 0
        + Ideal.ofBits .f32 0x3089705F#32)

open Classical in
/-- One where a statement holds, zero where it fails. -/
def ind (p : Prop) : EReal := if p then 1 else 0

theorem ind_pos {p : Prop} (h : p) : ind p = 1 := if_pos h

theorem ind_neg {p : Prop} (h : ¬ p) : ind p = 0 := if_neg h

/-- `s` is the suppression mask of the 128 candidates from `r` on. -/
def IsMask (T : ℕ → ℕ → Prop) (r : ℕ) (s : Vec Ideal S128x2048 .f32) : Prop :=
  ∀ (i : Fin 128) (k : Fin 2048), s (ix2 i k) = ind (T (r + i) k)

/-- `v` holds one at the candidates that are still kept after `j` steps, and zero at the others. -/
def IsKeep (T : ℕ → ℕ → Prop) (j : ℕ) (v : Vec Ideal S1x2048 .f32) : Prop :=
  ∀ k : Fin 2048, v (ix2 0 k) = ind (Greedy.K T j k)

/-- A choice by the conjunction of two bits. -/
theorem select_and (p q : Prop) [Decidable p] [Decidable q] :
    Scalar.select (IntOp.andi (BitVec.ofBool (decide p)) (BitVec.ofBool (decide q))) 1 0 = ind (q ∧ p) := by
  by_cases hp : p <;> by_cases hq : q <;> simp [hp, hq, IntOp.andi, Scalar.select, ind]

/-- Comparing two small numbers as signed words compares the numbers. -/
theorem cmpi_later (r i k : ℕ) (h1 : r + i < 2 ^ 31) (h2 : k < 2 ^ 31) :
    IntOp.cmpi CmpIPredicate.sgt (BitVec.ofNat 32 k) (IntOp.addi (BitVec.ofNat 32 r) (BitVec.ofNat 32 i)) = BitVec.ofBool (decide (r + i < k)) := by
  rw [show IntOp.addi (BitVec.ofNat 32 r) (BitVec.ofNat 32 i) = BitVec.ofNat 32 (r + i) from (BitVec.ofNat_add _ _).symm]
  rw [cmpi_sgt_ofNat (by omega) (by omega)]

/-- The mask of a block at a row and a column. -/
theorem sBlk_apply (r : ℕ) (hr : r + 128 ≤ 2048) (xc yc x2c y2c : Vec Ideal S1x2048 .f32) (xr yr x2r y2r : Vec Ideal S128x1 .f32)
    (i : Fin 128) (k : Fin 2048) :
    sBlk (BitVec.ofNat 32 r) xc yc x2c y2c xr yr x2r y2r (ix2 i k) =
      ind (r + (i : ℕ) < k ∧ Overlaps (xr (ix2 i 0)) (yr (ix2 i 0)) (x2r (ix2 i 0)) (y2r (ix2 i 0))
        (xc (ix2 0 k)) (yc (ix2 0 k)) (x2c (ix2 0 k)) (y2c (ix2 0 k))) := by
  pointwise [sBlk]
  rw [cmpi_later r i k (by omega) (by omega)]
  exact select_and _ _

/-- An invariant of a counted loop's steps holds at its end. -/
theorem foldl_inv {σ : Type} {n : ℕ} (g : Fin n → σ → σ) (P : ℕ → σ → Prop) (hs : ∀ (k : Fin n) (a : σ), P k a → P (k + 1) (g k a))
    (a : σ) (h : P 0 a) : P n (Scf.fold g a) := by
  rw [Scf.fold_eq]
  induction n with
  | zero => simpa using h
  | succ n ih =>
    rw [List.finRange_succ_last, List.foldl_append, List.foldl_map]
    exact hs (Fin.last n) _ (ih (fun k a => g k.castSucc a) (fun k a => hs k.castSucc a))

theorem one_sub_one : (1 : EReal) - 1 = 0 := by
  rw [← EReal.coe_one, ← EReal.coe_sub, sub_self, EReal.coe_zero]

/-- One step of the walk inside a block. -/
theorem stepBlk_apply (T : ℕ → ℕ → Prop) (r : ℕ) (s : Vec Ideal S128x128 .f32)
    (hs : ∀ i k : Fin 128, s (ix2 i k) = ind (T (r + i) (r + k))) (i : Fin k0_t1_loop.trips) (keep : FVec Ideal S1x128 .f32)
    (hk : ∀ k : Fin 128, keep (ix2 0 k) = ind (Greedy.K T (r + i) (r + k))) (k : Fin 128) :
    stepBlk s i keep (ix2 0 k) = ind (Greedy.K T (r + (i + 1)) (r + k)) := by
  pointwise [stepBlk, k0_pay18]
  have hi : (i : ℕ) < 128 := i.isLt
  have hsel : ∀ x : Fin 128, IntOp.cmpi CmpIPredicate.eq (BitVec.ofNat 32 (x : ℕ)) (Scf.iv 0#32 1#32 i) = BitVec.ofBool (decide ((x : ℕ) = i)) := by
    intro x
    rw [show Scf.iv 0#32 1#32 (i : ℕ) = BitVec.ofNat 32 i by simp [Scf.iv], cmpi_eq_ofNat (by omega) (by omega)]
  rw [Finset.sum_eq_single (⟨i, hi⟩ : Fin 128)]
  · rw [hsel, WordCmp.select_ofBool, hk, hk, hs, ← Nat.add_assoc, Greedy.K_succ]
    by_cases h1 : Greedy.K T (r + i) (r + k) <;> by_cases h2 : T (r + i) (r + k) <;> by_cases h3 : Greedy.K T (r + i) (r + i) <;>
      simp [h1, h2, h3, ind, one_sub_one]
  · intro x _ hx
    rw [hsel, WordCmp.select_ofBool, decide_eq_false (fun h => hx (Fin.ext h))]
    rfl
  · exact fun h => absurd (Finset.mem_univ _) h

/-- The walk inside a block computes what is kept after the block, at the block's own candidates. -/
theorem foldBlk_apply (T : ℕ → ℕ → Prop) (r : ℕ) (s : Vec Ideal S128x128 .f32)
    (hs : ∀ i k : Fin 128, s (ix2 i k) = ind (T (r + i) (r + k))) (keep : FVec Ideal S1x128 .f32)
    (hk : ∀ k : Fin 128, keep (ix2 0 k) = ind (Greedy.K T r (r + k))) (k : Fin 128) :
    foldBlk s keep (ix2 0 k) = ind (Greedy.K T (r + 128) (r + k)) := by
  refine foldl_inv (stepBlk s) (fun i v => ∀ k : Fin 128, v (ix2 0 k) = ind (Greedy.K T (r + i) (r + k)))
    (fun i v hv k => stepBlk_apply T r s hs i v hv k) _ (fun k => ?_) k
  refine Eq.trans ?_ (hk k)
  pointwise

/-- A sum of ones and zeros exceeds one half exactly when one of its terms is a one. -/
theorem sum_gt_half (p : Fin 128 → Prop) : (Ideal.ofBits .f32 0x3F000000#32 < ∑ k : Fin 128, (ind (p k))) ↔ ∃ k, p k := by
  rw [half_eq]
  constructor
  · intro h
    by_contra hn
    simp only [not_exists] at hn
    simp only [ind_neg (hn _), Finset.sum_const_zero] at h
    exact absurd h (by norm_num)
  · rintro ⟨k, hk⟩
    refine lt_of_lt_of_le ?_ (Finset.single_le_sum (fun i _ => ?_) (Finset.mem_univ k))
    · rw [ind_pos hk]; norm_cast; norm_num
    · unfold ind; split <;> norm_num

/-- The keep vector after a block, given the block's mask, its walk's result, and a keep vector whose part in the block is that result. -/
theorem supBlk_keep (T : ℕ → ℕ → Prop) (hT : ∀ i k, T i k → i < k) (r : ℕ) (s : Vec Ideal S128x2048 .f32) (hs : IsMask T r s)
    (loc : FVec Ideal S1x128 .f32) (hl : ∀ k : Fin 128, loc (ix2 0 k) = ind (Greedy.K T (r + 128) (r + k)))
    (keep : Vec Ideal S1x2048 .f32)
    (hk : ∀ k : Fin 2048, keep (ix2 0 k) = ind (Greedy.K T (if r ≤ k ∧ (k : ℕ) < r + 128 then r + 128 else r) k)) :
    IsKeep T (r + 128) (supBlk loc s keep) := by
  intro k
  pointwise [supBlk, k0_pay19, k0_pay20]
  have hsum : (∑ i : Fin 128, loc (ix2 0 i) * s (ix2 i k)) = ∑ i : Fin 128, ind (Greedy.K T (r + 128) (r + i) ∧ T (r + i) k) := by
    refine Finset.sum_congr rfl fun i _ => ?_
    rw [hl, hs]
    by_cases h1 : Greedy.K T (r + 128) (r + i) <;> by_cases h2 : T (r + i) k <;> simp [h1, h2, ind]
  rw [hsum, hk]
  have hadd := Greedy.K_add hT r 128 k
  have hex : (∃ i : Fin 128, Greedy.K T (r + 128) (r + i) ∧ T (r + i) k) ↔ ∃ i, i < 128 ∧ Greedy.K T (r + 128) (r + i) ∧ T (r + i) k :=
    ⟨fun ⟨i, h⟩ => ⟨i, i.isLt, h⟩, fun ⟨i, hi, h⟩ => ⟨⟨i, hi⟩, h⟩⟩
  rw [← hex] at hadd
  by_cases h : ∃ i : Fin 128, Greedy.K T (r + 128) (r + i) ∧ T (r + i) k
  · rw [if_pos ((sum_gt_half _).mpr h), ind_neg (fun h' => (hadd.mp h').2 h)]
  · rw [if_neg (fun h' => h ((sum_gt_half _).mp h'))]
    split
    · rfl
    · exact congrArg ind (propext ⟨fun h' => hadd.mpr ⟨h', h⟩, fun h' => (hadd.mp h').1⟩)

end Cert.KernelIdeal.Block
-- ==== Proof.KernelPieces.lean ====
/- The kernel's sixteen blocks: the pieces that it stores are those of one block's functions, so that the keep vector
   after every block is what greedy suppression keeps after that many candidates. -/
module

public import proofs.«01_k».proof.Proof.BlockValue
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen
open Idealize.ShloMosaic Idealize.ShloMosaic.TcCoe

variable {F : FTy → Type} [FloatOps F]

/-- 128 rows of one column of the boxes stored by row, as the kernel loads them. -/
def rowsOf (arg0 : Memref sig .tc .vmem S2048x4 .f32) (h0 : arg0.IsWhole) (x0 : Vec F S2048x4 .f32) (r k : ℕ)
    (inb : ∀ a, (![r, k] : Fin 2 → ℕ) a + S128x1.size a ≤ S2048x4.size a) : Vec F S128x1 .f32 :=
  View.readAt (Elt F) arg0.view (Rect.unit (s := S2048x4) ![r, k] S128x1.size inb).toLoadRect (h0.unread x0)

/-- One row of the boxes stored by column, as the kernel loads it. -/
def colsOf (arg1 : Memref sig .tc .vmem S4x2048 .f32) (h1 : arg1.IsWhole) (x1 : Vec F S4x2048 .f32) (k : ℕ)
    (inb : ∀ a, (![k, 0] : Fin 2 → ℕ) a + S1x2048.size a ≤ S4x2048.size a) : Vec F S1x2048 .f32 :=
  View.readAt (Elt F) arg1.view (Rect.unit (s := S4x2048) ![k, 0] S1x2048.size inb).toLoadRect (h1.unread x1)

/-- The mask of the block that starts at row `r`. -/
def maskAt (arg0 : Memref sig .tc .vmem S2048x4 .f32) (h0 : arg0.IsWhole) (arg1 : Memref sig .tc .vmem S4x2048 .f32) (h1 : arg1.IsWhole)
    (x0 : Vec F S2048x4 .f32) (x1 : Vec F S4x2048 .f32) (r : ℕ)
    (inb : ∀ k < 4, ∀ a, (![r, k] : Fin 2 → ℕ) a + S128x1.size a ≤ S2048x4.size a) : FVec F S128x2048 .f32 :=
  sBlk (BitVec.ofNat 32 r) (colsOf arg1 h1 x1 0 inb_S4x2048_S1x2048_0_0) (colsOf arg1 h1 x1 1 inb_S4x2048_S1x2048_1_0)
    (colsOf arg1 h1 x1 2 inb_S4x2048_S1x2048_2_0) (colsOf arg1 h1 x1 3 inb_S4x2048_S1x2048_3_0)
    (rowsOf arg0 h0 x0 r 0 (inb 0 (by decide))) (rowsOf arg0 h0 x0 r 1 (inb 1 (by decide)))
    (rowsOf arg0 h0 x0 r 2 (inb 2 (by decide))) (rowsOf arg0 h0 x0 r 3 (inb 3 (by decide)))

theorem inb_rows (r : ℕ) (hr : r + 128 ≤ 2048) (k : ℕ) (hk : k < 4) (a : Fin 2) :
    (![r, k] : Fin 2 → ℕ) a + S128x1.size a ≤ S2048x4.size a := by
  fin_cases a
  · exact hr
  · exact hk

theorem inb_diag (r : ℕ) (hr : r + 128 ≤ 2048) (a : Fin 2) : (![0, r] : Fin 2 → ℕ) a + S128x128.size a ≤ S128x2048.size a := by
  fin_cases a
  · exact le_refl 128
  · exact hr

theorem inb_part (r : ℕ) (hr : r + 128 ≤ 2048) (a : Fin 2) : (![0, r] : Fin 2 → ℕ) a + S1x128.size a ≤ S1x2048.size a := by
  fin_cases a
  · exact le_refl 1
  · exact hr

/-- A store of a whole mask. -/
def maskPiece (s : FVec F S128x2048 .f32) : View.Piece (Elt F) S128x2048 .f32 :=
  ⟨Rect.unit ![0, 0] S128x2048.size inb_S128x2048_S128x2048_0_0, s⟩

/-- A store of a whole keep vector. -/
def keepPiece (v : FVec F S1x2048 .f32) : View.Piece (Elt F) S1x2048 .f32 :=
  ⟨Rect.unit ![0, 0] S1x2048.size inb_S1x2048_S1x2048_0_0, v⟩

/-- The stores to the keep vector after the block that starts at row `r`, from the stores before it and those to the mask. -/
def nextPieces (arg2 : Memref sig .tc .vmem S1x2048 .f32) (arg3 : Memref sig .tc .vmem S128x2048 .f32) (r : ℕ) (hr : r + 128 ≤ 2048)
    (LS : List (View.Piece (Elt F) S128x2048 .f32)) (L : List (View.Piece (Elt F) S1x2048 .f32)) :
    List (View.Piece (Elt F) S1x2048 .f32) :=
  let loc : FVec F S1x128 .f32 :=
    foldBlk (arg3.view.readCov LS (Rect.unit (s := S128x2048) ![0, r] S128x128.size (inb_diag r hr)).toLoadRect)
      (arg2.view.readCov L (Rect.unit (s := S1x2048) ![0, r] S1x128.size (inb_part r hr)).toLoadRect)
  let L' : List (View.Piece (Elt F) S1x2048 .f32) := ⟨Rect.unit ![0, r] S1x128.size (inb_part r hr), loc⟩ :: L
  keepPiece (supBlk loc
      (arg3.view.readCov LS (Rect.unit (s := S128x2048) ![0, 0] S128x2048.size inb_S128x2048_S128x2048_0_0).toLoadRect)
      (arg2.view.readCov L' (Rect.unit (s := S1x2048) ![0, 0] S1x2048.size inb_S1x2048_S1x2048_0_0).toLoadRect)) :: L'

section blocks

variable (c : Dev nD) (arg0 : Memref sig .tc .vmem S2048x4 .f32) (h0 : arg0.IsWhole) (arg1 : Memref sig .tc .vmem S4x2048 .f32)
    (h1 : arg1.IsWhole) (arg2 : Memref sig .tc .vmem S1x2048 .f32) (arg3 : Memref sig .tc .vmem S128x2048 .f32)
    (x0 : Vec F S2048x4 .f32) (x1 : Vec F S4x2048 .f32)

/-! The printed program's stores, block by block. -/

theorem mask_0 : kernelRun0_A.sl.HS0_1 c arg0 h0 arg1 h1 x0 x1
    = maskPiece (maskAt arg0 h0 arg1 h1 x0 x1 0 (inb_rows 0 (by decide))) :: [] := by rfl

theorem keep_0 : kernelRun0_A.sl.H2_3 c arg0 h0 arg1 h1 arg2 arg3 x0 x1
    = nextPieces arg2 arg3 0 (by decide) (kernelRun0_A.sl.HS0_1 c arg0 h0 arg1 h1 x0 x1) kernelRun0_A.sl.H2_1 := by rfl

theorem mask_1 : kernelRun0_A.sl.HS0_2 c arg0 h0 arg1 h1 x0 x1
    = maskPiece (maskAt arg0 h0 arg1 h1 x0 x1 128 (inb_rows 128 (by decide))) :: kernelRun0_A.sl.HS0_1 c arg0 h0 arg1 h1 x0 x1 := by rfl

theorem keep_1 : kernelRun0_A.sl.H2_5 c arg0 h0 arg1 h1 arg2 arg3 x0 x1
    = nextPieces arg2 arg3 128 (by decide) (kernelRun0_A.sl.HS0_2 c arg0 h0 arg1 h1 x0 x1) (kernelRun0_A.sl.H2_3 c arg0 h0 arg1 h1 arg2 arg3 x0 x1) := by rfl

theorem mask_2 : kernelRun0_A.sl.HS0_3 c arg0 h0 arg1 h1 x0 x1
    = maskPiece (maskAt arg0 h0 arg1 h1 x0 x1 256 (inb_rows 256 (by decide))) :: kernelRun0_A.sl.HS0_2 c arg0 h0 arg1 h1 x0 x1 := by rfl

theorem keep_2 : kernelRun0_A.sl.H2_7 c arg0 h0 arg1 h1 arg2 arg3 x0 x1
    = nextPieces arg2 arg3 256 (by decide) (kernelRun0_A.sl.HS0_3 c arg0 h0 arg1 h1 x0 x1) (kernelRun0_A.sl.H2_5 c arg0 h0 arg1 h1 arg2 arg3 x0 x1) := by rfl

theorem mask_3 : kernelRun0_A.sl.HS0_4 c arg0 h0 arg1 h1 x0 x1
    = maskPiece (maskAt arg0 h0 arg1 h1 x0 x1 384 (inb_rows 384 (by decide))) :: kernelRun0_A.sl.HS0_3 c arg0 h0 arg1 h1 x0 x1 := by rfl

theorem keep_3 : kernelRun0_A.sl.H2_9 c arg0 h0 arg1 h1 arg2 arg3 x0 x1
    = nextPieces arg2 arg3 384 (by decide) (kernelRun0_A.sl.HS0_4 c arg0 h0 arg1 h1 x0 x1) (kernelRun0_A.sl.H2_7 c arg0 h0 arg1 h1 arg2 arg3 x0 x1) := by rfl

theorem mask_4 : kernelRun0_A.sl.HS0_5 c arg0 h0 arg1 h1 x0 x1
    = maskPiece (maskAt arg0 h0 arg1 h1 x0 x1 512 (inb_rows 512 (by decide))) :: kernelRun0_A.sl.HS0_4 c arg0 h0 arg1 h1 x0 x1 := by rfl

theorem keep_4 : kernelRun0_A.sl.H2_11 c arg0 h0 arg1 h1 arg2 arg3 x0 x1
    = nextPieces arg2 arg3 512 (by decide) (kernelRun0_A.sl.HS0_5 c arg0 h0 arg1 h1 x0 x1) (kernelRun0_A.sl.H2_9 c arg0 h0 arg1 h1 arg2 arg3 x0 x1) := by rfl

theorem mask_5 : kernelRun0_A.sl.HS0_6 c arg0 h0 arg1 h1 x0 x1
    = maskPiece (maskAt arg0 h0 arg1 h1 x0 x1 640 (inb_rows 640 (by decide))) :: kernelRun0_A.sl.HS0_5 c arg0 h0 arg1 h1 x0 x1 := by rfl

theorem keep_5 : kernelRun0_A.sl.H2_13 c arg0 h0 arg1 h1 arg2 arg3 x0 x1
    = nextPieces arg2 arg3 640 (by decide) (kernelRun0_A.sl.HS0_6 c arg0 h0 arg1 h1 x0 x1) (kernelRun0_A.sl.H2_11 c arg0 h0 arg1 h1 arg2 arg3 x0 x1) := by rfl

theorem mask_6 : kernelRun0_A.sl.HS0_7 c arg0 h0 arg1 h1 x0 x1
    = maskPiece (maskAt arg0 h0 arg1 h1 x0 x1 768 (inb_rows 768 (by decide))) :: kernelRun0_A.sl.HS0_6 c arg0 h0 arg1 h1 x0 x1 := by rfl

theorem keep_6 : kernelRun0_A.sl.H2_15 c arg0 h0 arg1 h1 arg2 arg3 x0 x1
    = nextPieces arg2 arg3 768 (by decide) (kernelRun0_A.sl.HS0_7 c arg0 h0 arg1 h1 x0 x1) (kernelRun0_A.sl.H2_13 c arg0 h0 arg1 h1 arg2 arg3 x0 x1) := by rfl

theorem mask_7 : kernelRun0_A.sl.HS0_8 c arg0 h0 arg1 h1 x0 x1
    = maskPiece (maskAt arg0 h0 arg1 h1 x0 x1 896 (inb_rows 896 (by decide))) :: kernelRun0_A.sl.HS0_7 c arg0 h0 arg1 h1 x0 x1 := by rfl

theorem keep_7 : kernelRun0_A.sl.H2_17 c arg0 h0 arg1 h1 arg2 arg3 x0 x1
    = nextPieces arg2 arg3 896 (by decide) (kernelRun0_A.sl.HS0_8 c arg0 h0 arg1 h1 x0 x1) (kernelRun0_A.sl.H2_15 c arg0 h0 arg1 h1 arg2 arg3 x0 x1) := by rfl

theorem mask_8 : kernelRun0_A.sl.HS0_9 c arg0 h0 arg1 h1 x0 x1
    = maskPiece (maskAt arg0 h0 arg1 h1 x0 x1 1024 (inb_rows 1024 (by decide))) :: kernelRun0_A.sl.HS0_8 c arg0 h0 arg1 h1 x0 x1 := by rfl

theorem keep_8 : kernelRun0_A.sl.H2_19 c arg0 h0 arg1 h1 arg2 arg3 x0 x1
    = nextPieces arg2 arg3 1024 (by decide) (kernelRun0_A.sl.HS0_9 c arg0 h0 arg1 h1 x0 x1) (kernelRun0_A.sl.H2_17 c arg0 h0 arg1 h1 arg2 arg3 x0 x1) := by rfl

theorem mask_9 : kernelRun0_A.sl.HS0_10 c arg0 h0 arg1 h1 x0 x1
    = maskPiece (maskAt arg0 h0 arg1 h1 x0 x1 1152 (inb_rows 1152 (by decide))) :: kernelRun0_A.sl.HS0_9 c arg0 h0 arg1 h1 x0 x1 := by rfl

theorem keep_9 : kernelRun0_A.sl.H2_21 c arg0 h0 arg1 h1 arg2 arg3 x0 x1
    = nextPieces arg2 arg3 1152 (by decide) (kernelRun0_A.sl.HS0_10 c arg0 h0 arg1 h1 x0 x1) (kernelRun0_A.sl.H2_19 c arg0 h0 arg1 h1 arg2 arg3 x0 x1) := by rfl

theorem mask_10 : kernelRun0_A.sl.HS0_11 c arg0 h0 arg1 h1 x0 x1
    = maskPiece (maskAt arg0 h0 arg1 h1 x0 x1 1280 (inb_rows 1280 (by decide))) :: kernelRun0_A.sl.HS0_10 c arg0 h0 arg1 h1 x0 x1 := by rfl

theorem keep_10 : kernelRun0_A.sl.H2_23 c arg0 h0 arg1 h1 arg2 arg3 x0 x1
    = nextPieces arg2 arg3 1280 (by decide) (kernelRun0_A.sl.HS0_11 c arg0 h0 arg1 h1 x0 x1) (kernelRun0_A.sl.H2_21 c arg0 h0 arg1 h1 arg2 arg3 x0 x1) := by rfl

theorem mask_11 : kernelRun0_A.sl.HS0_12 c arg0 h0 arg1 h1 x0 x1
    = maskPiece (maskAt arg0 h0 arg1 h1 x0 x1 1408 (inb_rows 1408 (by decide))) :: kernelRun0_A.sl.HS0_11 c arg0 h0 arg1 h1 x0 x1 := by rfl

theorem keep_11 : kernelRun0_A.sl.H2_25 c arg0 h0 arg1 h1 arg2 arg3 x0 x1
    = nextPieces arg2 arg3 1408 (by decide) (kernelRun0_A.sl.HS0_12 c arg0 h0 arg1 h1 x0 x1) (kernelRun0_A.sl.H2_23 c arg0 h0 arg1 h1 arg2 arg3 x0 x1) := by rfl

theorem mask_12 : kernelRun0_A.sl.HS0_13 c arg0 h0 arg1 h1 x0 x1
    = maskPiece (maskAt arg0 h0 arg1 h1 x0 x1 1536 (inb_rows 1536 (by decide))) :: kernelRun0_A.sl.HS0_12 c arg0 h0 arg1 h1 x0 x1 := by rfl

theorem keep_12 : kernelRun0_A.sl.H2_27 c arg0 h0 arg1 h1 arg2 arg3 x0 x1
    = nextPieces arg2 arg3 1536 (by decide) (kernelRun0_A.sl.HS0_13 c arg0 h0 arg1 h1 x0 x1) (kernelRun0_A.sl.H2_25 c arg0 h0 arg1 h1 arg2 arg3 x0 x1) := by rfl

theorem mask_13 : kernelRun0_A.sl.HS0_14 c arg0 h0 arg1 h1 x0 x1
    = maskPiece (maskAt arg0 h0 arg1 h1 x0 x1 1664 (inb_rows 1664 (by decide))) :: kernelRun0_A.sl.HS0_13 c arg0 h0 arg1 h1 x0 x1 := by rfl

theorem keep_13 : kernelRun0_A.sl.H2_29 c arg0 h0 arg1 h1 arg2 arg3 x0 x1
    = nextPieces arg2 arg3 1664 (by decide) (kernelRun0_A.sl.HS0_14 c arg0 h0 arg1 h1 x0 x1) (kernelRun0_A.sl.H2_27 c arg0 h0 arg1 h1 arg2 arg3 x0 x1) := by rfl

theorem mask_14 : kernelRun0_A.sl.HS0_15 c arg0 h0 arg1 h1 x0 x1
    = maskPiece (maskAt arg0 h0 arg1 h1 x0 x1 1792 (inb_rows 1792 (by decide))) :: kernelRun0_A.sl.HS0_14 c arg0 h0 arg1 h1 x0 x1 := by rfl

theorem keep_14 : kernelRun0_A.sl.H2_31 c arg0 h0 arg1 h1 arg2 arg3 x0 x1
    = nextPieces arg2 arg3 1792 (by decide) (kernelRun0_A.sl.HS0_15 c arg0 h0 arg1 h1 x0 x1) (kernelRun0_A.sl.H2_29 c arg0 h0 arg1 h1 arg2 arg3 x0 x1) := by rfl

theorem mask_15 : kernelRun0_A.sl.HS0_16 c arg0 h0 arg1 h1 x0 x1
    = maskPiece (maskAt arg0 h0 arg1 h1 x0 x1 1920 (inb_rows 1920 (by decide))) :: kernelRun0_A.sl.HS0_15 c arg0 h0 arg1 h1 x0 x1 := by rfl

theorem keep_15 (h2 : arg2.IsWhole) (h3 : arg3.IsWhole) : (kernelRun0_A c arg0 h0 arg1 h1 arg2 h2 arg3 h3 x0 x1).1
    = nextPieces arg2 arg3 1920 (by decide) (kernelRun0_A.sl.HS0_16 c arg0 h0 arg1 h1 x0 x1) (kernelRun0_A.sl.H2_31 c arg0 h0 arg1 h1 arg2 arg3 x0 x1) := by rfl

end blocks

end Cert.KernelIdeal.Block
-- ==== Proof.KernelKeep.lean ====
/- The kernel's output: after its sixteen blocks the keep vector is what greedy suppression keeps of 2048 candidates. -/
module

public import proofs.«01_k».proof.Proof.KernelPieces

@[expose] public section

set_option maxRecDepth 16384

noncomputable section

namespace Cert.KernelIdeal.Block

open Cert.KernelIdeal Cert.KernelIdeal.Gen
open Idealize.ShloMosaic Idealize.ShloMosaic.TcCoe

/-- Candidate `i` suppresses candidate `k`: it comes earlier and its box overlaps the other's by more than the threshold; the boxes are
    read by row from `x0` and by column from `x1`. -/
def Suppresses (x0 : Vec Ideal S2048x4 .f32) (x1 : Vec Ideal S4x2048 .f32) (i k : ℕ) : Prop :=
  i < k ∧ ∃ (hi : i < 2048) (hk : k < 2048),
    Overlaps (x0 (ix2 ⟨i, hi⟩ 0)) (x0 (ix2 ⟨i, hi⟩ 1)) (x0 (ix2 ⟨i, hi⟩ 2)) (x0 (ix2 ⟨i, hi⟩ 3))
      (x1 (ix2 0 ⟨k, hk⟩)) (x1 (ix2 1 ⟨k, hk⟩)) (x1 (ix2 2 ⟨k, hk⟩)) (x1 (ix2 3 ⟨k, hk⟩))

theorem rowsOf_apply (arg0 : Memref sig .tc .vmem S2048x4 .f32) (h0 : arg0.IsWhole) (x0 : Vec Ideal S2048x4 .f32) (r : ℕ) (hr : r + 128 ≤ 2048)
    (k : Fin 4) (inb : ∀ a, (![r, (k : ℕ)] : Fin 2 → ℕ) a + S128x1.size a ≤ S2048x4.size a) (i : Fin 128) :
    rowsOf arg0 h0 x0 r k inb (ix2 i 0) = x0 (ix2 ⟨r + i, by omega⟩ k) := by
  unfold rowsOf
  rw [View.readAt_eq_ld, h0.read_unread]
  refine View.ld_unit_apply_of x0 _ _ _ _ _ fun a => ?_
  fin_cases a <;> rfl

theorem colsOf_apply (arg1 : Memref sig .tc .vmem S4x2048 .f32) (h1 : arg1.IsWhole) (x1 : Vec Ideal S4x2048 .f32)
    (k : Fin 4) (inb : ∀ a, (![(k : ℕ), 0] : Fin 2 → ℕ) a + S1x2048.size a ≤ S4x2048.size a) (i : Fin 2048) :
    colsOf arg1 h1 x1 k inb (ix2 0 i) = x1 (ix2 k i) := by
  unfold colsOf
  rw [View.readAt_eq_ld, h1.read_unread]
  refine View.ld_unit_apply_of x1 _ _ _ _ _ fun a => ?_
  fin_cases a
  · rfl
  · exact (Nat.zero_add _).symm

/-- The mask of a block is that of the suppression relation. -/
theorem maskAt_isMask (arg0 : Memref sig .tc .vmem S2048x4 .f32) (h0 : arg0.IsWhole) (arg1 : Memref sig .tc .vmem S4x2048 .f32) (h1 : arg1.IsWhole)
    (x0 : Vec Ideal S2048x4 .f32) (x1 : Vec Ideal S4x2048 .f32) (r : ℕ) (hr : r + 128 ≤ 2048) :
    IsMask (Suppresses x0 x1) r (maskAt arg0 h0 arg1 h1 x0 x1 r (inb_rows r hr)) := by
  intro i k
  unfold maskAt
  rw [sBlk_apply r hr]
  have hrow := fun j inb => rowsOf_apply arg0 h0 x0 r hr j inb i
  have hcol := fun j inb => colsOf_apply arg1 h1 x1 j inb k
  rw [show rowsOf arg0 h0 x0 r 0 _ (ix2 i 0) = _ from hrow 0 _, show rowsOf arg0 h0 x0 r 1 _ (ix2 i 0) = _ from hrow 1 _,
    show rowsOf arg0 h0 x0 r 2 _ (ix2 i 0) = _ from hrow 2 _, show rowsOf arg0 h0 x0 r 3 _ (ix2 i 0) = _ from hrow 3 _,
    show colsOf arg1 h1 x1 0 _ (ix2 0 k) = _ from hcol 0 _, show colsOf arg1 h1 x1 1 _ (ix2 0 k) = _ from hcol 1 _,
    show colsOf arg1 h1 x1 2 _ (ix2 0 k) = _ from hcol 2 _, show colsOf arg1 h1 x1 3 _ (ix2 0 k) = _ from hcol 3 _]
  exact congrArg ind (propext (and_congr_right fun _ => ⟨fun h => ⟨by omega, k.isLt, h⟩, fun ⟨_, _, h⟩ => h⟩))

/-- The last store to the keep vector is a whole one, of what is kept after `j` steps. -/
def Holds (T : ℕ → ℕ → Prop) (j : ℕ) (L : List (View.Piece (Elt Ideal) S1x2048 .f32)) : Prop :=
  ∃ v L0, L = keepPiece v :: L0 ∧ IsKeep T j v

/-- One block: from what is kept before it to what is kept after it. -/
theorem next_holds (T : ℕ → ℕ → Prop) (hT : ∀ i k, T i k → i < k) (arg2 : Memref sig .tc .vmem S1x2048 .f32)
    (arg3 : Memref sig .tc .vmem S128x2048 .f32) (r : ℕ) (hr : r + 128 ≤ 2048)
    {LS LS0 : List (View.Piece (Elt Ideal) S128x2048 .f32)} {L L' : List (View.Piece (Elt Ideal) S1x2048 .f32)}
    {s : FVec Ideal S128x2048 .f32} (hL : Holds T r L) (hs : IsMask T r s) (hLS : LS = maskPiece s :: LS0)
    (hL' : L' = nextPieces arg2 arg3 r hr LS L) : Holds T (r + 128) L' := by
  obtain ⟨v, L0, rfl, hv⟩ := hL
  subst hLS hL'
  have hz2 : ∀ a, (![0, 0] : Fin 2 → ℕ) a = 0 := fun a => by fin_cases a <;> rfl
  unfold nextPieces maskPiece keepPiece
  simp only []
  have hloc : ∀ (loc : FVec Ideal S1x128 .f32), (∀ k : Fin 128, loc (ix2 0 k) = ind (Greedy.K T (r + 128) (r + k))) → ∀ k : Fin 2048,
      arg2.view.readCov (⟨Rect.unit ![0, r] S1x128.size (inb_part r hr), loc⟩ ::
          ⟨Rect.unit ![0, 0] S1x2048.size inb_S1x2048_S1x2048_0_0, v⟩ :: L0)
        (Rect.unit (s := S1x2048) ![0, 0] S1x2048.size inb_S1x2048_S1x2048_0_0).toLoadRect (ix2 0 k)
      = ind (Greedy.K T (if r ≤ k ∧ (k : ℕ) < r + 128 then r + 128 else r) k) := by
    intro loc hl k
    rw [View.readCov_eq_canon']
    have e : (Rect.unit (s := S1x2048) ![0, 0] S1x2048.size inb_S1x2048_S1x2048_0_0).toLoadRect.idx (ix2 0 k) = (ix2 0 k : S1x2048.Idx) := by
      funext a
      refine Fin.ext ((Rect.idx_unit_val _ _ _ _ a).trans ?_)
      fin_cases a <;> exact Nat.zero_add _
    show View.canon _ (LoadRect.idx _ _) = _
    rw [e]
    by_cases hk : r ≤ k ∧ (k : ℕ) < r + 128
    · have hx : (Rect.unit (s := S1x2048) ![0, r] S1x128.size (inb_part r hr)).emb (ix2 0 ⟨k - r, by omega⟩) = (ix2 0 k : S1x2048.Idx) := by
        funext a
        refine Fin.ext ((Rect.idx_unit_val _ _ _ _ a).trans ?_)
        fin_cases a
        · rfl
        · show r + ((k : ℕ) - r) = k
          omega
      rw [if_pos hk, ← hx, View.canon_cons_emb]
      refine (hl ⟨k - r, by omega⟩).trans (congrArg (fun n => ind (Greedy.K T (r + 128) n)) ?_)
      show r + ((k : ℕ) - r) = k
      omega
    · rw [if_neg hk, View.canon_cons_of_not_mem, View.canon_cons_unit_lit _ _ _ hz2]
      · exact hv k
      · rw [Rect.mem_set_unit]
        exact fun h => hk (h 1)
  refine ⟨_, _, rfl, supBlk_keep T hT r _ ?_ _ ?_ _ (hloc _ ?_)⟩
  · rw [View.readCov_fill _ _ _ _ _ hz2]
    intro i k
    pointwise
    exact hs i k
  all_goals
    intro k
    refine foldBlk_apply T r _ (fun i k => ?_) _ (fun k => ?_) k
    · rw [View.readCov_fill _ _ _ _ _ hz2]
      pointwise
      exact hs i ⟨r + k, by omega⟩
    · rw [View.readCov_fill _ _ _ _ _ hz2]
      pointwise
      exact hv ⟨r + k, by omega⟩

/-- What the kernel stores last to its output: a whole keep vector, of what greedy suppression keeps after all 2048 candidates. -/
theorem run_holds (c : Dev nD) (arg0 : Memref sig .tc .vmem S2048x4 .f32) (h0 : arg0.IsWhole) (arg1 : Memref sig .tc .vmem S4x2048 .f32)
    (h1 : arg1.IsWhole) (arg2 : Memref sig .tc .vmem S1x2048 .f32) (h2 : arg2.IsWhole) (arg3 : Memref sig .tc .vmem S128x2048 .f32)
    (h3 : arg3.IsWhole) (x0 : Vec Ideal S2048x4 .f32) (x1 : Vec Ideal S4x2048 .f32) :
    Holds (Suppresses x0 x1) 2048 (kernelRun0_A (F := Ideal) c arg0 h0 arg1 h1 arg2 h2 arg3 h3 x0 x1).1 := by
  have hT : ∀ i k, Suppresses x0 x1 i k → i < k := fun i k h => h.1
  have hm := maskAt_isMask arg0 h0 arg1 h1 x0 x1
  have H : Holds (Suppresses x0 x1) 0 kernelRun0_A.sl.H2_1 := ⟨k0_pay2, [], rfl, fun k => by
    rw [ind_pos (p := Greedy.K _ 0 _) trivial]
    pointwise [k0_pay2]⟩
  replace H := next_holds _ hT arg2 arg3 0 (by decide) H (hm 0 (by decide)) (mask_0 c arg0 h0 arg1 h1 x0 x1) (keep_0 c arg0 h0 arg1 h1 arg2 arg3 x0 x1)
  replace H := next_holds _ hT arg2 arg3 128 (by decide) H (hm 128 (by decide)) (mask_1 c arg0 h0 arg1 h1 x0 x1) (keep_1 c arg0 h0 arg1 h1 arg2 arg3 x0 x1)
  replace H := next_holds _ hT arg2 arg3 256 (by decide) H (hm 256 (by decide)) (mask_2 c arg0 h0 arg1 h1 x0 x1) (keep_2 c arg0 h0 arg1 h1 arg2 arg3 x0 x1)
  replace H := next_holds _ hT arg2 arg3 384 (by decide) H (hm 384 (by decide)) (mask_3 c arg0 h0 arg1 h1 x0 x1) (keep_3 c arg0 h0 arg1 h1 arg2 arg3 x0 x1)
  replace H := next_holds _ hT arg2 arg3 512 (by decide) H (hm 512 (by decide)) (mask_4 c arg0 h0 arg1 h1 x0 x1) (keep_4 c arg0 h0 arg1 h1 arg2 arg3 x0 x1)
  replace H := next_holds _ hT arg2 arg3 640 (by decide) H (hm 640 (by decide)) (mask_5 c arg0 h0 arg1 h1 x0 x1) (keep_5 c arg0 h0 arg1 h1 arg2 arg3 x0 x1)
  replace H := next_holds _ hT arg2 arg3 768 (by decide) H (hm 768 (by decide)) (mask_6 c arg0 h0 arg1 h1 x0 x1) (keep_6 c arg0 h0 arg1 h1 arg2 arg3 x0 x1)
  replace H := next_holds _ hT arg2 arg3 896 (by decide) H (hm 896 (by decide)) (mask_7 c arg0 h0 arg1 h1 x0 x1) (keep_7 c arg0 h0 arg1 h1 arg2 arg3 x0 x1)
  replace H := next_holds _ hT arg2 arg3 1024 (by decide) H (hm 1024 (by decide)) (mask_8 c arg0 h0 arg1 h1 x0 x1) (keep_8 c arg0 h0 arg1 h1 arg2 arg3 x0 x1)
  replace H := next_holds _ hT arg2 arg3 1152 (by decide) H (hm 1152 (by decide)) (mask_9 c arg0 h0 arg1 h1 x0 x1) (keep_9 c arg0 h0 arg1 h1 arg2 arg3 x0 x1)
  replace H := next_holds _ hT arg2 arg3 1280 (by decide) H (hm 1280 (by decide)) (mask_10 c arg0 h0 arg1 h1 x0 x1) (keep_10 c arg0 h0 arg1 h1 arg2 arg3 x0 x1)
  replace H := next_holds _ hT arg2 arg3 1408 (by decide) H (hm 1408 (by decide)) (mask_11 c arg0 h0 arg1 h1 x0 x1) (keep_11 c arg0 h0 arg1 h1 arg2 arg3 x0 x1)
  replace H := next_holds _ hT arg2 arg3 1536 (by decide) H (hm 1536 (by decide)) (mask_12 c arg0 h0 arg1 h1 x0 x1) (keep_12 c arg0 h0 arg1 h1 arg2 arg3 x0 x1)
  replace H := next_holds _ hT arg2 arg3 1664 (by decide) H (hm 1664 (by decide)) (mask_13 c arg0 h0 arg1 h1 x0 x1) (keep_13 c arg0 h0 arg1 h1 arg2 arg3 x0 x1)
  replace H := next_holds _ hT arg2 arg3 1792 (by decide) H (hm 1792 (by decide)) (mask_14 c arg0 h0 arg1 h1 x0 x1) (keep_14 c arg0 h0 arg1 h1 arg2 arg3 x0 x1)
  replace H := next_holds _ hT arg2 arg3 1920 (by decide) H (hm 1920 (by decide)) (mask_15 c arg0 h0 arg1 h1 x0 x1) (keep_15 c arg0 h0 arg1 h1 arg2 arg3 x0 x1 h2 h3)
  exact H

/-- So the kernel's output block is that keep vector. -/
theorem out_isKeep (c : Dev nD) (arg0 : Memref sig .tc .vmem S2048x4 .f32) (h0 : arg0.IsWhole) (arg1 : Memref sig .tc .vmem S4x2048 .f32)
    (h1 : arg1.IsWhole) (arg2 : Memref sig .tc .vmem S1x2048 .f32) (h2 : arg2.IsWhole) (arg3 : Memref sig .tc .vmem S128x2048 .f32)
    (h3 : arg3.IsWhole) (x0 : Vec Ideal S2048x4 .f32) (x1 : Vec Ideal S4x2048 .f32) :
    IsKeep (Suppresses x0 x1) 2048 (out0_A_2 (F := Ideal) c arg0 h0 arg1 h1 arg2 h2 arg3 h3 x0 x1) := by
  obtain ⟨v, L0, hL, hv⟩ := run_holds c arg0 h0 arg1 h1 arg2 h2 arg3 h3 x0 x1
  have hz2 : ∀ a, (![0, 0] : Fin 2 → ℕ) a = 0 := fun a => by fin_cases a <;> rfl
  have e : out0_A_2 (F := Ideal) c arg0 h0 arg1 h1 arg2 h2 arg3 h3 x0 x1 = v := by
    unfold out0_A_2
    rw [View.read_writes_junk_eq_canon, hL]
    exact View.canon_cons_unit_lit _ _ _ hz2
  rw [e]
  exact hv

end Cert.KernelIdeal.Block
-- ==== Proof.Stages.lean ====
/- The parts of the problem that both programs compute by the same operations, named once: the clipped coordinates, the
   masked scores, the 2000 best boxes, and the last choice of 1000. Each program's buffers are then read as these. -/
module

public import proofs.«01_k».proof.Defs
public import proofs.«01_k».proof.Proof.Gen.KernelIdeal

@[expose] public section

set_option maxRecDepth 16384

noncomputable section

namespace Cert.Stage

open Cert.KernelIdeal Cert.KernelIdeal.Gen
open Idealize.ShloMosaic

/-- One column of the boxes, clipped to [0, the float with word `hi`]. -/
def clip (hi : BitVec 32) (x : Vec Ideal S20000x1 .f32) : Vec Ideal S20000 .f32 :=
  minimumf (F := Ideal) (broadcastInDim S20000 ![] bcast_S_S20000 (constant (F := Ideal) S_ .f32 hi))
    (maximumf (F := Ideal) (broadcastInDim S20000 ![] bcast_S_S20000 (constant (F := Ideal) S_ .f32 0x00000000#32))
      (shapeCast S20000 x shapeCasts_S20000x1_S20000))

/-- The four clipped columns. -/
def left (a : Vec Ideal S20000x4 .f32) : Vec Ideal S20000 .f32 :=
  clip 0x44A6A000#32 (extractStridedSlice S20000x1 ![0, 0] a slices_S20000x4_S20000x1_0_0)
def top (a : Vec Ideal S20000x4 .f32) : Vec Ideal S20000 .f32 :=
  clip 0x44480000#32 (extractStridedSlice S20000x1 ![0, 1] a slices_S20000x4_S20000x1_0_1)
def right (a : Vec Ideal S20000x4 .f32) : Vec Ideal S20000 .f32 :=
  clip 0x44A6A000#32 (extractStridedSlice S20000x1 ![0, 2] a slices_S20000x4_S20000x1_0_2)
def bottom (a : Vec Ideal S20000x4 .f32) : Vec Ideal S20000 .f32 :=
  clip 0x44480000#32 (extractStridedSlice S20000x1 ![0, 3] a slices_S20000x4_S20000x1_0_3)

/-- The clipped boxes, one per row. -/
def boxes (a : Vec Ideal S20000x4 .f32) : Vec Ideal S20000x4 .f32 :=
  concatenate S20000x4 1
    [⟨S20000x1, broadcastInDim S20000x1 ![0] bcast_S20000_S20000x1_0 (left a)⟩,
     ⟨S20000x1, broadcastInDim S20000x1 ![0] bcast_S20000_S20000x1_0 (top a)⟩,
     ⟨S20000x1, broadcastInDim S20000x1 ![0] bcast_S20000_S20000x1_0 (right a)⟩,
     ⟨S20000x1, broadcastInDim S20000x1 ![0] bcast_S20000_S20000x1_0 (bottom a)⟩]
    concatenates_S20000x1_S20000x1_S20000x1_S20000x1_S20000x4_d1

/-- The scores, with the lowest score in place of a box's that is too thin. -/
def scores (a : Vec Ideal S20000x4 .f32) (s : Vec Ideal S20000 .f32) : Vec Ideal S20000 .f32 :=
  select
    (andi
      (cmpf .oge (subf (right a) (left a)) (broadcastInDim S20000 ![] bcast_S_S20000 (constant (F := Ideal) S_ .f32 0x3A83126F#32)))
      (cmpf .oge (subf (bottom a) (top a)) (broadcastInDim S20000 ![] bcast_S_S20000 (constant (F := Ideal) S_ .f32 0x3A83126F#32))))
    s (broadcastInDim S20000 ![] bcast_S_S20000 (constant (F := Ideal) S_ .f32 0xCE6E6B28#32))

/-- The 2000 best scores, and where they stand. -/
def bestScores (a : Vec Ideal S20000x4 .f32) (s : Vec Ideal S20000 .f32) : Vec Ideal S2000 .f32 :=
  (Host.topK S2000 0 (FloatOps.cmpfTotal (F := Ideal) (φ := .f32) .gt) (scores a s) sliceFits_S20000_S2000).1
def bestPlaces (a : Vec Ideal S20000x4 .f32) (s : Vec Ideal S20000 .f32) : Vec Ideal S2000 .i32 :=
  (Host.topK S2000 0 (FloatOps.cmpfTotal (F := Ideal) (φ := .f32) .gt) (scores a s) sliceFits_S20000_S2000).2

/-- The 2000 best boxes, best first. -/
def bestBoxes (a : Vec Ideal S20000x4 .f32) (s : Vec Ideal S20000 .f32) : Vec Ideal S2000x4 .f32 :=
  Host.gather gather_S20000x4_S2000x1_S2000x4_1_0_n_n_0_1_14 (boxes a)
    (broadcastInDim S2000x1 ![0] bcast_S2000_S2000x1_0
      (select (cmpi .slt (bestPlaces a s) (broadcastInDim S2000 ![] bcast_S_S2000 (constantI S_ 32 0#32)))
        (addi (bestPlaces a s) (broadcastInDim S2000 ![] bcast_S_S2000 (constantI S_ 32 20000#32)))
        (bestPlaces a s)))

/-- The scores `v` of the boxes kept by `b`, with the lowest score for the others. -/
def keptScores (b : Vec Ideal S2000 .i1) (v : Vec Ideal S2000 .f32) : Vec Ideal S2000 .f32 :=
  select b v (broadcastInDim S2000 ![] bcast_S_S2000 (constant (F := Ideal) S_ .f32 0xCE6E6B28#32))

/-- The 1000 best of 2000 scores, and where they stand. -/
def lastScores (v : Vec Ideal S2000 .f32) : Vec Ideal S1000 .f32 :=
  (Host.topK S1000 0 (FloatOps.cmpfTotal (F := Ideal) (φ := .f32) .gt) v sliceFits_S2000_S1000).1
def lastPlaces (v : Vec Ideal S2000 .f32) : Vec Ideal S1000 .i32 :=
  (Host.topK S1000 0 (FloatOps.cmpfTotal (F := Ideal) (φ := .f32) .gt) v sliceFits_S2000_S1000).2

/-- The boxes of the 1000 best of 2000 scores. -/
def lastBoxes (x : Vec Ideal S2000x4 .f32) (v : Vec Ideal S2000 .f32) : Vec Ideal S1000x4 .f32 :=
  Host.gather gather_S2000x4_S1000x1_S1000x4_1_0_n_n_0_1_14 x
    (broadcastInDim S1000x1 ![0] bcast_S1000_S1000x1_0
      (select (cmpi .slt (lastPlaces v) (broadcastInDim S1000 ![] bcast_S_S1000 (constantI S_ 32 0#32)))
        (addi (lastPlaces v) (broadcastInDim S1000 ![] bcast_S_S1000 (constantI S_ 32 2000#32)))
        (lastPlaces v)))

end Cert.Stage

end
-- ==== Proof.KernelHost.lean ====
/- What the kernel program's host operations leave before the launch, and what those after it make of the launch's output. -/
module

public import proofs.«01_k».proof.Proof.Stages
public import proofs.«01_k».proof.Proof.Gen.KernelIdeal.Frame
public import Idealize.ShloMosaic.Lib.StableHlo.RunRead
public import Idealize.ShloMosaic.Lib.Claim

@[expose] public section

set_option maxRecDepth 16384

noncomputable section

namespace Cert.KernelIdeal.Host

open Cert.KernelIdeal Cert.KernelIdeal.Gen
open Idealize.ShloMosaic Idealize.ShloMosaic.TcCoe
open Idealize.SL.Sem
open Idealize.ShloMosaic.StableHlo

variable (m : (ℓ : Loc nD τ sig) → Buf (Elt Ideal) ℓ)

/-- The boxes with 48 rows of zeros below them, as the launch reads them. -/
def padded (x : FVec Ideal S2000x4 .f32) : FVec Ideal S2048x4 .f32 :=
  concatenate S2048x4 0
    [⟨S2000x4, x⟩, ⟨S48x4, broadcastInDim S48x4 ![] bcast_S_S48x4 (constant (F := Ideal) S_ .f32 0x00000000#32)⟩]
    concatenates_S2000x4_S48x4_S2048x4_d0

/-- Which of the 2000 candidates a keep vector keeps. -/
def keptBits (x : FVec Ideal S1x2048 .f32) : Vec Ideal S2000 .i1 :=
  cmpf .ogt (shapeCast S2000 (extractStridedSlice S1x2000 ![0, 0] x slices_S1x2048_S1x2000_0_0) shapeCasts_S1x2000_S2000)
    (broadcastInDim S2000 ![] bcast_S_S2000 (constant (F := Ideal) S_ .f32 0x3F000000#32))

/-- The two arguments as launched. -/
abbrev arg0 (c : Dev nD) : FVec Ideal S20000x4 .f32 := m (c, Proc.devRef .tc main_arg0)
abbrev arg1 (c : Dev nD) : FVec Ideal S20000 .f32 := m (c, Proc.devRef .tc main_arg1)

/-- The launch finds the best boxes and their scores, and the padded boxes by row and by column. -/
theorem entry_boxes (c : Dev nD) : V0 m c (Proc.devRef .tc main_v31) = Stage.bestBoxes (arg0 m c) (arg1 m c) := by
  unfold V0
  simp only [List.flatten_cons, List.flatten_nil, List.append_nil, List.cons_append, List.nil_append]
  after_reads_simp
  rfl
theorem entry_scores (c : Dev nD) : V0 m c (Proc.devRef .tc main_values) = Stage.bestScores (arg0 m c) (arg1 m c) := by
  unfold V0
  simp only [List.flatten_cons, List.flatten_nil, List.append_nil, List.cons_append, List.nil_append]
  after_reads_simp
  rfl

/-- The last operations before the launch pad the best boxes and turn them. -/
theorem last_boxes (W : Valuation τ sig (Elt Ideal)) :
    after (hostOps0_10.drop 16) W (Proc.devRef .tc main_v31) = W (Proc.devRef .tc main_v31) := by
  simp only [List.drop_succ_cons, List.drop_zero]
  after_reads_simp
theorem last_rows (W : Valuation τ sig (Elt Ideal)) :
    after (hostOps0_10.drop 16) W (Proc.devRef .tc main_v33) = padded (W (Proc.devRef .tc main_v31)) := by
  simp only [List.drop_succ_cons, List.drop_zero]
  after_results
  rfl
theorem last_cols (W : Valuation τ sig (Elt Ideal)) :
    after (hostOps0_10.drop 16) W (Proc.devRef .tc main_v34)
      = transpose S4x2048 [1, 0] (padded (W (Proc.devRef .tc main_v31))) transposes_S2048x4_S4x2048_1_0 := by
  simp only [List.drop_succ_cons, List.drop_zero]
  after_results
  rfl
theorem entry_last (c : Dev nD) : ∃ W, V0 m c = after (hostOps0_10.drop 16) W :=
  ⟨after (List.flatten [hostOps0, hostOps0_1, hostOps0_2, hostOps0_3, hostOps0_4, hostOps0_5, hostOps0_6,
    hostOps0_7, hostOps0_8, hostOps0_9, hostOps0_10.take 16]) (fun b => m (c, b)), by
    unfold V0
    rw [← after_append]
    rfl⟩
theorem entry_rows (c : Dev nD) : V0 m c (Proc.devRef .tc main_v33) = padded (Stage.bestBoxes (arg0 m c) (arg1 m c)) := by
  obtain ⟨W, h⟩ := entry_last m c
  rw [← entry_boxes, h, last_rows, last_boxes]
theorem entry_cols (c : Dev nD) :
    V0 m c (Proc.devRef .tc main_v34)
      = transpose S4x2048 [1, 0] (padded (Stage.bestBoxes (arg0 m c) (arg1 m c))) transposes_S2048x4_S4x2048_1_0 := by
  obtain ⟨W, h⟩ := entry_last m c
  rw [← entry_boxes, h, last_cols, last_boxes]

/-- The contents after the launch: the output array at the keep vector, everything else as the launch found it. -/
abbrev afterLaunch (c : Dev nD) : Valuation τ sig (Elt Ideal) :=
  Pipeline.withArrays (cfgs 0).spec c (V0 m c) fun w => (dats m 0 c).arrAt w (cfgs 0).N

theorem launch_keep (c : Dev nD) : afterLaunch m c (Proc.devRef .tc main_v35) = (dats m 0 c).arrAt 2 cfg0.N :=
  Pipeline.withArrays_arr spec0 (by decide) c _ _ 2
theorem launch_boxes (c : Dev nD) : afterLaunch m c (Proc.devRef .tc main_v31) = Stage.bestBoxes (arg0 m c) (arg1 m c) :=
  (Pipeline.withArrays_of_ne spec0 c _ _ main_v31 (by decide)).trans (entry_boxes m c)
theorem launch_scores (c : Dev nD) : afterLaunch m c (Proc.devRef .tc main_values) = Stage.bestScores (arg0 m c) (arg1 m c) :=
  (Pipeline.withArrays_of_ne spec0 c _ _ main_values (by decide)).trans (entry_scores m c)

/-- The scores among which the last choice is made. -/
abbrev lastInput (c : Dev nD) : FVec Ideal S2000 .f32 :=
  Stage.keptScores (keptBits ((dats m 0 c).arrAt 2 cfg0.N)) (Stage.bestScores (arg0 m c) (arg1 m c))

/-- What the operations after the launch make of any contents. -/
theorem tail_scores (W : Valuation τ sig (Elt Ideal)) :
    after (List.flatten [hostOps1, hostOps1_1, hostOps1_2]) W (Proc.devRef .tc main_values_14)
      = Stage.lastScores (Stage.keptScores (keptBits (W (Proc.devRef .tc main_v35))) (W (Proc.devRef .tc main_values))) := by
  simp only [List.flatten_cons, List.flatten_nil, List.append_nil, List.cons_append, List.nil_append]
  after_reads_simp
  rfl
theorem tail_boxes (W : Valuation τ sig (Elt Ideal)) :
    after (List.flatten [hostOps1, hostOps1_1, hostOps1_2]) W (Proc.devRef .tc main_v47)
      = Stage.lastBoxes (W (Proc.devRef .tc main_v31))
          (Stage.keptScores (keptBits (W (Proc.devRef .tc main_v35))) (W (Proc.devRef .tc main_values))) := by
  simp only [List.flatten_cons, List.flatten_nil, List.append_nil, List.cons_append, List.nil_append]
  after_reads_simp
  rfl

/-- The two results. -/
theorem final_scores (c : Dev nD) :
    Pipeline.afterTail₀ cfgs (dats m) 0 (V0 m) [hostOps1, hostOps1_1, hostOps1_2] c main_values_14 = Stage.lastScores (lastInput m c) :=
  (tail_scores (afterLaunch m c)).trans (by rw [launch_keep, launch_scores])
theorem final_boxes (c : Dev nD) :
    Pipeline.afterTail₀ cfgs (dats m) 0 (V0 m) [hostOps1, hostOps1_1, hostOps1_2] c main_v47
      = Stage.lastBoxes (Stage.bestBoxes (arg0 m c) (arg1 m c)) (lastInput m c) :=
  (tail_boxes (afterLaunch m c)).trans (by rw [launch_keep, launch_scores, launch_boxes])

end Cert.KernelIdeal.Host

end
-- ==== Proof.KernelRun.lean ====
/- The kernel program's run: what its output array and its two results hold at the end. -/
module

public import proofs.«01_k».proof.Proof.KernelKeep
public import proofs.«01_k».proof.Proof.KernelHost
public import Idealize.ShloMosaic.Lib.Pipeline.ValueKit

@[expose] public section

set_option maxRecDepth 16384

noncomputable section

namespace Cert.KernelIdeal.Host

open Cert.KernelIdeal Cert.KernelIdeal.Gen Cert.KernelIdeal.Block
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The one point's input blocks are the whole arrays. -/
theorem block_rows (c : Dev nD) : iblk m c 0 t0_0 = V m c main_v33 := by
  have h0 : win0_0.index t0_0 = ![0, 0] := by decide +kernel
  funext y
  unfold iblk
  blk_simp
  blk_ext [h0]
theorem block_cols (c : Dev nD) : iblk m c 1 t0_0 = V m c main_v34 := by
  have h0 : win0_1.index t0_0 = ![0, 0] := by decide +kernel
  funext y
  unfold iblk
  blk_simp
  blk_ext [h0]

/-- The output array is what greedy suppression keeps of the 2048 rows. -/
theorem keep_final (c : Dev nD) :
    IsKeep (Suppresses (V m c main_v33) (V m c main_v34)) 2048 ((dats m 0 c).arrAt 2 cfg0.N) := by
  have e : (dats m 0 c).arrAt 2 cfg0.N = outsAt0 m c t0_0 := by
    refine (dats m 0 c).arrAt_eq_of_after_last 2 t0_0 (by decide +kernel) _ fun j => ?_
    blk_simp
    rw [after0_2]
  rw [e]
  unfold outsAt0
  rw [← block_rows m c, ← block_cols m c]
  exact out_isKeep _ _ _ _ _ _ _ _ _ _ _

/-- The kernel program's run: the two results, and the arguments unchanged. -/
theorem run : θ_run (defs (F := Ideal)) (onTc (τ := τ) (main (F := Ideal))) ⟨m, fun _ => 0, ρ⟩ (fun r => ∀ c : Dev nD,
      r.2.mem ((c.tc : Thread nD τ).loc main_v47) = Stage.lastBoxes (Stage.bestBoxes (arg0 m c) (arg1 m c)) (lastInput m c)
      ∧ r.2.mem ((c.tc : Thread nD τ).loc main_values_14) = Stage.lastScores (lastInput m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v47 (Pipeline.mem_restRefs_of main_v47 (by decide) (by decide))).trans (final_boxes m c),
      ((h c).2 main_values_14 (Pipeline.mem_restRefs_of main_values_14 (by decide) (by decide))).trans (final_scores m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.KernelIdeal.Host

end
-- ==== Proof.RefLoop.lean ====
/- The reference's loop: after `j` trips its keep bits are what greedy suppression keeps after `j` candidates. -/
module

public import proofs.«01_k».proof.Proof.RefFrame
public import proofs.«01_k».proof.Proof.Greedy
public import Idealize.ShloMosaic.Lib.StableHlo.ReadAt
public import Idealize.ShloMosaic.Lib.Pointwise
public import Idealize.ShloMosaic.Lib.WordCmp
public import Idealize.ShloMosaic.Lib.DynamicIndex

@[expose] public section

set_option maxRecDepth 16384

noncomputable section

namespace Cert.ReferenceIdeal.Value

open Cert.ReferenceIdeal Cert.ReferenceIdeal.Gen
open Idealize.ShloMosaic Idealize.ShloMosaic.TcCoe
open Idealize.ShloMosaic.StableHlo

/-- Candidate `i` suppresses candidate `k`: it comes earlier and the table's ratio for the two exceeds the threshold. -/
def Beats (x : FVec Ideal S2000x2000 .f32) (i k : ℕ) : Prop :=
  i < k ∧ ∃ (hi : i < 2000) (hk : k < 2000), Ideal.ofBits .f32 0x3F333333#32 < x (ix2 ⟨i, hi⟩ ⟨k, hk⟩)

open Classical in
/-- The bit of a proposition. -/
def bit (p : Prop) : BitVec 1 := BitVec.ofBool (decide p)

theorem bit_iff {p q : Prop} (h : p ↔ q) : bit p = bit q := by rw [propext h]

theorem bit_pos {p : Prop} (h : p) : bit p = 1#1 := by
  simp [bit, h]

/-- The bit of a candidate after a step, from its bit before it and the three conditions that remove it. -/
theorem bit_step {A B C A' D : Prop} [Decidable B] [Decidable C] (h : D ↔ A ∧ ¬ ((B ∧ C) ∧ A')) :
    IntOp.andi (bit A) (~~~ IntOp.andi (IntOp.andi (BitVec.ofBool (decide B)) (BitVec.ofBool (decide C))) (bit A')) = bit D := by
  rw [bit_iff h]
  by_cases hA : A <;> by_cases hB : B <;> by_cases hC : C <;> by_cases hA' : A' <;> simp [bit, hA, hB, hC, hA'] <;> decide

/-- A trip's start indices, spelt by the loop with a wrap for a negative index, are the index itself. -/
theorem wrap_eq (j : ℕ) (hj : j < 2000) :
    (Scalar.select (IntOp.cmpi .slt (BitVec.ofNat 32 j) 0#32) (IntOp.addi (BitVec.ofNat 32 j) 2000#32) (BitVec.ofNat 32 j) : BitVec 32).toInt = j := by
  have h : IntOp.cmpi .slt (BitVec.ofNat 32 j) 0#32 = BitVec.ofBool (decide (j < 0)) :=
    WordCmp.cmpi_slt_ofNat (w := 32) (a := j) (b := 0) (by omega) (by omega)
  rw [h]
  simp only [Nat.not_lt_zero, decide_false]
  exact WordCmp.toInt_ofNat_of_lt (by omega)

theorem step_bits (W : Valuation τ sig (Elt Ideal)) (j : ℕ) (hj : j < 2000)
    (h3 : W (Proc.devRef .tc main_v86_3) = fun _ => BitVec.ofNat 32 j)
    (h1 : W (Proc.devRef .tc main_v86_1) = iotaInDim S2000 32 0)
    (h4 : ∀ k : Fin 2000, W (Proc.devRef .tc main_v86_4) (ix1 k) = bit (Greedy.K (Beats (W (Proc.devRef .tc main_v86_0))) j k))
    (k : Fin 2000) :
    step_main_v86_4 W (ix1 k) = bit (Greedy.K (Beats (W (Proc.devRef .tc main_v86_0))) (j + 1) k) := by
  unfold step_main_v86_4 res_main_while0b_v96
  generalize W (Proc.devRef .tc main_v86_0) = x at h4 ⊢
  generalize W (Proc.devRef .tc main_v86_4) = v at h4 ⊢
  rw [h3, h1]
  have hr : S2000x2000.Slices ![j, 0] S1x2000 := ⟨rfl, fun a => by
    fin_cases a
    · show j + 1 ≤ 2000
      omega
    · show 0 + 2000 ≤ 2000
      omega⟩
  have hv : S2000.Slices ![j] S1 := ⟨rfl, fun a => by
    fin_cases a
    show j + 1 ≤ 2000
    omega⟩
  rw [Host.dynamicSlice_eq_extractStridedSlice S1x2000 x _ ![j, 0] _ hr (by
      intro a; fin_cases a
      · exact wrap_eq j hj
      · rfl),
    Host.dynamicSlice_eq_extractStridedSlice S1 v _ ![j] _ hv (by
      intro a; fin_cases a
      exact wrap_eq j hj)]
  simp only [id_eq]
  clean_types
  pointwise
  rw [WordCmp.cmpi_sgt_ofNat (by omega) (by omega), h4, h4]
  exact bit_step (Greedy.K_succ j k |>.trans (by rw [show Beats x j k ↔ Ideal.ofBits .f32 0x3F333333#32 < x (ix2 ⟨j, hj⟩ k) ∧ j < k from
    ⟨fun ⟨h, hi, hk, ht⟩ => ⟨ht, h⟩, fun ⟨ht, h⟩ => ⟨h, hj, k.2, ht⟩⟩]))

/-- The carried buffers after `j` trips. -/
theorem trips_bits (W : Valuation τ sig (Elt Ideal))
    (h3 : W (Proc.devRef .tc main_v86_3) = fun _ => 0#32)
    (h1 : W (Proc.devRef .tc main_v86_1) = iotaInDim S2000 32 0)
    (h4 : W (Proc.devRef .tc main_v86_4) = fun _ => 1#1) (j : ℕ) (hj : j ≤ 2000) :
    STEP^[j] W (Proc.devRef .tc main_v86_3) = (fun _ => BitVec.ofNat 32 j)
    ∧ STEP^[j] W (Proc.devRef .tc main_v86_1) = iotaInDim S2000 32 0
    ∧ STEP^[j] W (Proc.devRef .tc main_v86_0) = W (Proc.devRef .tc main_v86_0)
    ∧ ∀ k : Fin 2000, STEP^[j] W (Proc.devRef .tc main_v86_4) (ix1 k) = bit (Greedy.K (Beats (W (Proc.devRef .tc main_v86_0))) j k) := by
  induction j with
  | zero =>
    refine ⟨h3, h1, rfl, fun k => ?_⟩
    show W (Proc.devRef .tc main_v86_4) (ix1 k) = _
    rw [h4]
    exact (bit_pos trivial).symm
  | succ j ih =>
    obtain ⟨i3, i1, i0, i4⟩ := ih (by omega)
    rw [Function.iterate_succ_apply', STEP_main_v86_3, STEP_main_v86_1, STEP_main_v86_0, STEP_main_v86_4]
    refine ⟨?_, i1, i0, fun k => ?_⟩
    · unfold step_main_v86_3
      rw [i3]
      funext i
      show BitVec.ofNat 32 j + 1#32 = BitVec.ofNat 32 (j + 1)
      rw [BitVec.ofNat_add]
    · rw [step_bits _ j (by omega) i3 i1 (by rw [i0]; exact i4) k, i0]

end Cert.ReferenceIdeal.Value

end
-- ==== Proof.RefTable.lean ====
/- The reference's table of ratios, read at one pair of candidates. -/
module

public import proofs.«01_k».proof.Proof.RefLoop
public import proofs.«01_k».proof.Proof.BlockValue
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic Idealize.ShloMosaic.TcCoe
open Idealize.ShloMosaic.StableHlo

/-- The ratio of a pair exceeds the threshold exactly when the two boxes overlap by more than it. -/
theorem table_at (W : Valuation τ sig (Elt Ideal)) (x : FVec Ideal S2000x4 .f32) (hx : W (Proc.devRef .tc main_v31) = x) (i k : Fin 2000) :
    Ideal.ofBits .f32 0x3F333333#32 < (after (List.flatten [hostOps0_10.drop 11, hostOps0_11, hostOps0_12]) W (Proc.devRef .tc main_v86_0) : FVec Ideal S2000x2000 .f32) (ix2 i k)
      ↔ KernelIdeal.Block.Overlaps (x (ix2 i 0)) (x (ix2 i 1)) (x (ix2 i 2)) (x (ix2 i 3)) (x (ix2 k 0)) (x (ix2 k 1)) (x (ix2 k 2)) (x (ix2 k 3)) := by
  simp only [List.drop_succ_cons, List.drop_zero, List.flatten_cons, List.flatten_nil, List.append_nil, List.cons_append, List.nil_append]
  after_reads_at
  simp only [id_eq]
  pointwise
  rw [hx]
  unfold KernelIdeal.Block.Overlaps
  simp only [max_comm]

/-- The operations that make the table leave the boxes alone. -/
theorem table_boxes (W : Valuation τ sig (Elt Ideal)) :
    after (List.flatten [hostOps0_10.drop 11, hostOps0_11, hostOps0_12]) W (Proc.devRef .tc main_v31) = W (Proc.devRef .tc main_v31) := by
  simp only [List.drop_succ_cons, List.drop_zero, List.flatten_cons, List.flatten_nil, List.append_nil, List.cons_append, List.nil_append]
  after_reads_simp

end Cert.ReferenceIdeal.Value

end
-- ==== Proof.RefHost.lean ====
/- What the reference's host operations leave before its loop, and what those after it make of the loop's bits. -/
module

public import proofs.«01_k».proof.Proof.RefTable
public import proofs.«01_k».proof.Proof.Stages
public import Idealize.ShloMosaic.Lib.StableHlo.RunRead
public import Idealize.ShloMosaic.Lib.Claim

@[expose] public section

set_option maxRecDepth 16384

noncomputable section

namespace Cert.ReferenceIdeal.Value

open Cert.ReferenceIdeal Cert.ReferenceIdeal.Gen
open Idealize.ShloMosaic Idealize.ShloMosaic.TcCoe
open Idealize.SL.Sem
open Idealize.ShloMosaic.StableHlo

variable (m : (ℓ : Loc nD τ sig) → Buf (Elt Ideal) ℓ) (ρ : Dev nD → PrngReg)

/-- The two arguments as launched. -/
abbrev arg0 (c : Dev nD) : FVec Ideal S20000x4 .f32 := m (c, Proc.devRef .tc main_arg0)
abbrev arg1 (c : Dev nD) : FVec Ideal S20000 .f32 := m (c, Proc.devRef .tc main_arg1)

/-- The loop finds the best boxes and their scores. -/
theorem entry_boxes (c : Dev nD) : entryContents preI m c (Proc.devRef .tc main_v31) = Stage.bestBoxes (arg0 m c) (arg1 m c) := by
  simp only [entryContents, afterL_cons, afterL_nil]
  after_reads_simp
  rfl
theorem entry_scores (c : Dev nD) : entryContents preI m c (Proc.devRef .tc main_values) = Stage.bestScores (arg0 m c) (arg1 m c) := by
  simp only [entryContents, afterL_cons, afterL_nil]
  after_reads_simp
  rfl

/-- It finds its counter at 0, the positions, and every candidate kept. -/
theorem entry_count (c : Dev nD) : entryContents preI m c (Proc.devRef .tc main_v86_3) = fun _ => 0#32 := by
  simp only [entryContents, afterL_cons, afterL_nil]
  after_reads_simp
  rfl
theorem entry_places (c : Dev nD) : entryContents preI m c (Proc.devRef .tc main_v86_1) = iotaInDim S2000 32 0 := by
  simp only [entryContents, afterL_cons, afterL_nil]
  after_reads_simp
  rfl
theorem entry_kept (c : Dev nD) : entryContents preI m c (Proc.devRef .tc main_v86_4) = fun _ => 1#1 := by
  simp only [entryContents, afterL_cons, afterL_nil]
  after_reads_simp
  rfl

/-- Before the loop the last operations make the table from the best boxes. -/
theorem entry_table (c : Dev nD) : ∃ W : Valuation τ sig (Elt Ideal),
    entryContents preI m c = after (List.flatten [hostOps0_10.drop 11, hostOps0_11, hostOps0_12]) W :=
  ⟨after (List.flatten [hostOps0, hostOps0_1, hostOps0_2, hostOps0_3, hostOps0_4, hostOps0_5, hostOps0_6,
    hostOps0_7, hostOps0_8, hostOps0_9, hostOps0_10.take 11]) (fun b => m (c, b)), by
    rw [← after_append]
    rfl⟩

/-- The table that the loop reads, at a pair of candidates. -/
theorem entry_overlaps (c : Dev nD) (i k : Fin 2000) :
    Ideal.ofBits .f32 0x3F333333#32 < (entryContents preI m c (Proc.devRef .tc main_v86_0) : FVec Ideal S2000x2000 .f32) (ix2 i k)
      ↔ KernelIdeal.Block.Overlaps (Stage.bestBoxes (arg0 m c) (arg1 m c) (ix2 i 0)) (Stage.bestBoxes (arg0 m c) (arg1 m c) (ix2 i 1))
          (Stage.bestBoxes (arg0 m c) (arg1 m c) (ix2 i 2)) (Stage.bestBoxes (arg0 m c) (arg1 m c) (ix2 i 3))
          (Stage.bestBoxes (arg0 m c) (arg1 m c) (ix2 k 0)) (Stage.bestBoxes (arg0 m c) (arg1 m c) (ix2 k 1))
          (Stage.bestBoxes (arg0 m c) (arg1 m c) (ix2 k 2)) (Stage.bestBoxes (arg0 m c) (arg1 m c) (ix2 k 3)) := by
  have e := entry_boxes m c
  obtain ⟨W, h⟩ := entry_table m c
  rw [h, table_boxes] at e
  rw [h]
  exact table_at W _ e i k

/-- The keep bits after the loop. -/
theorem loop_bits (c : Dev nD) (k : Fin 2000) :
    atK m 2000 c (Proc.devRef .tc main_v86_4) (ix1 k)
      = bit (Greedy.K (Beats (entryContents preI m c (Proc.devRef .tc main_v86_0))) 2000 k) := by
  rw [atK_agree m c 2000 main_v86_4 (by decide)]
  exact (trips_bits _ (entry_count m c) (entry_places m c) (entry_kept m c) 2000 le_rfl).2.2.2 k

/-- What the operations after the loop make of any contents. -/
theorem tail_scores (W : Valuation τ sig (Elt Ideal)) :
    after (List.flatten [hostOps0_13, hostOps0_14, hostOps0_15]) W (Proc.devRef .tc main_values_17)
      = Stage.lastScores (Stage.keptScores (W (Proc.devRef .tc main_v86_4)) (W (Proc.devRef .tc main_values))) := by
  simp only [List.flatten_cons, List.flatten_nil, List.append_nil, List.cons_append, List.nil_append]
  after_reads_simp
  rfl
theorem tail_boxes (W : Valuation τ sig (Elt Ideal)) :
    after (List.flatten [hostOps0_13, hostOps0_14, hostOps0_15]) W (Proc.devRef .tc main_v94)
      = Stage.lastBoxes (W (Proc.devRef .tc main_v31))
          (Stage.keptScores (W (Proc.devRef .tc main_v86_4)) (W (Proc.devRef .tc main_values))) := by
  simp only [List.flatten_cons, List.flatten_nil, List.append_nil, List.cons_append, List.nil_append]
  after_reads_simp
  rfl

/-- The loop's end keeps the boxes, the scores and what is kept. -/
theorem loop_boxes (c : Dev nD) : after condOps (atK m 2000 c) (Proc.devRef .tc main_v31) = Stage.bestBoxes (arg0 m c) (arg1 m c) := by
  rw [after_of_writes_sub condOps _ condOps_writes (by decide), atK_keep m c main_v31 (by decide) (by decide), entry_boxes]
theorem loop_scores (c : Dev nD) : after condOps (atK m 2000 c) (Proc.devRef .tc main_values) = Stage.bestScores (arg0 m c) (arg1 m c) := by
  rw [after_of_writes_sub condOps _ condOps_writes (by decide), atK_keep m c main_values (by decide) (by decide), entry_scores]
theorem loop_kept (c : Dev nD) : after condOps (atK m 2000 c) (Proc.devRef .tc main_v86_4) = atK m 2000 c (Proc.devRef .tc main_v86_4) :=
  after_of_writes_sub condOps _ condOps_writes (by decide)

/-- After `n` trips the program ends with its last operations. -/
theorem final_after (n : ℕ) (c : Dev nD) :
    finalContents condOps preI bodyI postI n m c
      = after (List.flatten [hostOps0_13, hostOps0_14, hostOps0_15]) (after condOps (atK m n c)) := rfl

/-- The scores among which the last choice is made. -/
abbrev lastInput (c : Dev nD) : FVec Ideal S2000 .f32 :=
  Stage.keptScores (atK m 2000 c (Proc.devRef .tc main_v86_4)) (Stage.bestScores (arg0 m c) (arg1 m c))

/-- The reference's run: the two results, and the arguments unchanged. -/
theorem run : θ_run (defs (F := Ideal)) (onTc (τ := τ) (main (F := Ideal))) ⟨m, fun _ => 0, ρ⟩ (fun r => ∀ c : Dev nD,
      r.2.mem ((c.tc : Thread nD τ).loc main_v94) = Stage.lastBoxes (Stage.bestBoxes (arg0 m c) (arg1 m c)) (lastInput m c)
      ∧ r.2.mem ((c.tc : Thread nD τ).loc main_values_17) = Stage.lastScores (lastInput m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨(h c main_v94 rfl).trans (by rw [final_after, tail_boxes, loop_boxes, loop_scores, loop_kept]),
      (h c main_values_17 rfl).trans (by rw [final_after, tail_scores, loop_scores, loop_kept]),
      (h c main_arg0 rfl).trans (final_untouched m c main_arg0 (by decide +kernel)),
      (h c main_arg1 rfl).trans (final_untouched m c main_arg1 (by decide +kernel))⟩) (run_fold m ρ)

end Cert.ReferenceIdeal.Value

end
-- ==== Proof.Tie.lean ====
/- The two programs keep the same candidates, so they return the same boxes and scores. -/
module

public import proofs.«01_k».proof.Proof.KernelRun
public import proofs.«01_k».proof.Proof.RefHost

@[expose] public section

set_option maxRecDepth 16384

noncomputable section

namespace Cert.Tie

open Idealize.ShloMosaic Idealize.ShloMosaic.TcCoe Idealize.SL.Sem
open Cert.KernelIdeal (S2000x4 S4x2048 S2048x4 S1x2048 S2000)
open Cert.KernelIdeal.Gen (transposes_S2048x4_S4x2048_1_0)
open Cert.KernelIdeal.Block (Overlaps Suppresses IsKeep ind ind_pos ind_neg half_eq)
open Cert.KernelIdeal.Host (padded keptBits)
open Cert.ReferenceIdeal.Value (Beats bit)

/-- The first 2000 rows of the padded boxes are the boxes. -/
theorem padded_apply (x : FVec Ideal S2000x4 .f32) (i : ℕ) (h : i < 2000) (h' : i < 2048) (k : Fin 4) :
    padded x (ix2 ⟨i, h'⟩ k) = x (ix2 ⟨i, h⟩ k) := by
  unfold padded
  refine concatenate_pair_apply_left (t := S2048x4) (s₁ := S2000x4) (s₂ := Cert.KernelIdeal.S48x4) 0 x _ _ (ix2 ⟨i, h'⟩ k) rfl (ix2 ⟨i, h⟩ k) fun b => ?_
  fin_cases b <;> rfl

/-- The turned boxes hold by column what the boxes hold by row. -/
theorem turned_apply (x : FVec Ideal S2048x4 .f32) (k : Fin 4) (i : Fin 2048) :
    transpose S4x2048 [1, 0] x transposes_S2048x4_S4x2048_1_0 (ix2 k i) = x (ix2 i k) := by
  pointwise

/-- Overlapping depends on the coordinates only. -/
theorem overlaps_congr {a b c d e f g h a' b' c' d' e' f' g' h' : EReal} (ha : a = a') (hb : b = b') (hc : c = c')
    (hd : d = d') (he : e = e') (hf : f = f') (hg : g = g') (hh : h = h') :
    Overlaps a b c d e f g h ↔ Overlaps a' b' c' d' e' f' g' h' := by
  rw [ha, hb, hc, hd, he, hf, hg, hh]

/-- Among the first 2000 candidates the padded boxes suppress exactly as the boxes overlap. -/
theorem suppresses_iff (x : FVec Ideal S2000x4 .f32) (i k : ℕ) (hi : i < 2000) (hk : k < 2000) :
    Suppresses (padded x) (transpose S4x2048 [1, 0] (padded x) transposes_S2048x4_S4x2048_1_0) i k
      ↔ i < k ∧ Overlaps (x (ix2 ⟨i, hi⟩ 0)) (x (ix2 ⟨i, hi⟩ 1)) (x (ix2 ⟨i, hi⟩ 2)) (x (ix2 ⟨i, hi⟩ 3))
          (x (ix2 ⟨k, hk⟩ 0)) (x (ix2 ⟨k, hk⟩ 1)) (x (ix2 ⟨k, hk⟩ 2)) (x (ix2 ⟨k, hk⟩ 3)) := by
  unfold Suppresses
  refine and_congr_right fun _ => ?_
  have e (hi' : i < 2048) (hk' : k < 2048) :=
    overlaps_congr (padded_apply x i hi hi' 0) (padded_apply x i hi hi' 1) (padded_apply x i hi hi' 2) (padded_apply x i hi hi' 3)
      ((turned_apply (padded x) 0 ⟨k, hk'⟩).trans (padded_apply x k hk hk' 0))
      ((turned_apply (padded x) 1 ⟨k, hk'⟩).trans (padded_apply x k hk hk' 1))
      ((turned_apply (padded x) 2 ⟨k, hk'⟩).trans (padded_apply x k hk hk' 2))
      ((turned_apply (padded x) 3 ⟨k, hk'⟩).trans (padded_apply x k hk hk' 3))
  constructor
  · rintro ⟨hi', hk', h⟩
    exact (e hi' hk').mp h
  · intro h
    exact ⟨by omega, by omega, (e _ _).mpr h⟩

/-- A keep vector exceeds one half exactly at what it keeps. -/
theorem keptBits_apply (T : ℕ → ℕ → Prop) (v : FVec Ideal S1x2048 .f32) (hv : IsKeep T 2048 v) (k : Fin 2000) :
    keptBits v (ix1 k) = bit (Greedy.K T 2048 k) := by
  have e : keptBits v (ix1 k) = bit (Ideal.ofBits .f32 0x3F000000#32 < v (ix2 0 ⟨k, by omega⟩)) := by
    unfold keptBits bit
    pointwise
    congr
  rw [e, hv]
  refine Cert.ReferenceIdeal.Value.bit_iff ?_
  rw [half_eq]
  by_cases h : Greedy.K T 2048 k
  · rw [ind_pos h]
    refine iff_of_true ?_ h
    rw [← EReal.coe_one, EReal.coe_lt_coe_iff]
    norm_num
  · rw [ind_neg h]
    refine iff_of_false ?_ h
    rw [← EReal.coe_zero, EReal.coe_lt_coe_iff]
    norm_num

/-- Both loops keep the same candidates: the kernel's 48 further ones are padding and come last. -/
theorem kept_eq (x : FVec Ideal S2000x4 .f32) (v : FVec Ideal S1x2048 .f32)
    (hv : IsKeep (Suppresses (padded x) (transpose S4x2048 [1, 0] (padded x) transposes_S2048x4_S4x2048_1_0)) 2048 v)
    (t : FVec Ideal Cert.ReferenceIdeal.S2000x2000 .f32)
    (ht : ∀ i k : Fin 2000, Ideal.ofBits .f32 0x3F333333#32 < t (ix2 i k)
      ↔ Overlaps (x (ix2 i 0)) (x (ix2 i 1)) (x (ix2 i 2)) (x (ix2 i 3)) (x (ix2 k 0)) (x (ix2 k 1)) (x (ix2 k 2)) (x (ix2 k 3)))
    (k : Fin 2000) : keptBits v (ix1 k) = bit (Greedy.K (Beats t) 2000 k) := by
  rw [keptBits_apply _ v hv k]
  refine Cert.ReferenceIdeal.Value.bit_iff ?_
  rw [Greedy.K_settled' (fun _ _ h => h.1) (by omega : (k : ℕ) ≤ 2048),
    ← Greedy.K_settled' (T := Suppresses _ _) (fun _ _ h => h.1) (by omega : (k : ℕ) ≤ 2000)]
  refine Greedy.K_congr 2000 (fun i c hi hc => ?_) 2000 le_rfl k k.2
  rw [suppresses_iff x i c hi hc]
  refine and_congr_right fun _ => ?_
  rw [← ht ⟨i, hi⟩ ⟨c, hc⟩]
  exact ⟨fun h => ⟨hi, hc, h⟩, fun ⟨_, _, h⟩ => h⟩

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From equal arguments the two programs make the last choice among the same scores. -/
theorem lastInput_eq (c : Dev Cert.KernelIdeal.nD)
    (h0 : Cert.ReferenceIdeal.Value.arg0 m' c = Cert.KernelIdeal.Host.arg0 m c)
    (h1 : Cert.ReferenceIdeal.Value.arg1 m' c = Cert.KernelIdeal.Host.arg1 m c) :
    Cert.ReferenceIdeal.Value.lastInput m' c = Cert.KernelIdeal.Host.lastInput m c := by
  unfold Cert.ReferenceIdeal.Value.lastInput Cert.KernelIdeal.Host.lastInput
  rw [h0, h1]
  congr 1
  funext j
  rw [show j = ix1 (j 0) from by funext a; fin_cases a; rfl]
  refine (Cert.ReferenceIdeal.Value.loop_bits m' c (j 0)).trans (kept_eq (Stage.bestBoxes (Cert.KernelIdeal.Host.arg0 m c) (Cert.KernelIdeal.Host.arg1 m c)) _ ?_ _ (fun i k => ?_) (j 0)).symm
  · have h := Cert.KernelIdeal.Host.keep_final m c
    unfold Cert.KernelIdeal.Gen.V at h
    rw [Cert.KernelIdeal.Host.entry_rows m c, Cert.KernelIdeal.Host.entry_cols m c] at h
    exact h
  · have h := Cert.ReferenceIdeal.Value.entry_overlaps m' c i k
    rw [h0, h1] at h
    exact h

end

/-- The kernel and the reference return the same boxes and the same scores. -/
theorem algebraic : Cert.algebraic_KernelIdeal_ReferenceIdeal := by
  intro m g m' g' _ hagree
  refine ⟨_, _, Cert.KernelIdeal.Host.run m g, ?_⟩
  refine (θ_run _ _ _).mono (fun r h c => ?_) (Cert.ReferenceIdeal.Value.run m' g')
  obtain ⟨hb, hs, ha0, ha1⟩ := h c
  have h0 : Cert.ReferenceIdeal.Value.arg0 m' c = Cert.KernelIdeal.Host.arg0 m c := (hagree c).1
  have h1 : Cert.ReferenceIdeal.Value.arg1 m' c = Cert.KernelIdeal.Host.arg1 m c := (hagree c).2
  have e := lastInput_eq m m' c h0 h1
  rw [e, h0, h1] at hb
  rw [e] at hs
  exact ⟨hb, hs, ha0, ha1⟩

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Tie
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ, fun m ρ _ => Cert.ReferenceIdeal.Value.frame m ρ, trivial, Cert.Tie.algebraic⟩⟩

end Cert.Proof

end
